-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![768, 512]⟩ ⟨2, ![1536, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![768, 512]⟩ ⟨2, ![1536, 1024]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S768x512 : Shape := ⟨2, ![768, 512]⟩
abbrev S512 : Shape := ⟨1, ![512]⟩
abbrev S_ : Shape := ⟨0, ![]⟩

class Facts : Prop where
  bcast_S_S768x512 : S_.BroadcastsInDim S768x512 (![] : Fin 0 → Fin S768x512.rank)

variable [Facts]

def fn {F : FTy → Type} [FloatOps F] (main_arg0 : FVec F S768x512 .f32) (main_arg1 : FVec F S512 .f32) (main_arg2 : FVec F S512 .f32) : IVec S768x512 1 :=
  let main_v0 : FVec F S768x512 .f32 := Host.absf main_arg0
  let main_cst : FVec F S_ .f32 := constant S_ .f32 0x7F800000#32
  let main_v1 : FVec F S768x512 .f32 := broadcastInDim S768x512 ![] bcast_S_S768x512 main_cst
  let main_v2 : IVec S768x512 1 := cmpf .olt main_v0 main_v1
  main_v2
-- ==== Pre_x_finite_ReferenceIdeal.lean ====
abbrev S1536x1024 : Shape := ⟨2, ![1536, 1024]⟩
abbrev S1024 : Shape := ⟨1, ![1024]⟩
abbrev S_ : Shape := ⟨0, ![]⟩

class Facts : Prop where
  bcast_S_S1536x1024 : S_.BroadcastsInDim S1536x1024 (![] : Fin 0 → Fin S1536x1024.rank)

variable [Facts]

def fn {F : FTy → Type} [FloatOps F] (main_arg0 : FVec F S1536x1024 .f32) (main_arg1 : FVec F S1024 .f32) (main_arg2 : FVec F S1024 .f32) : IVec S1536x1024 1 :=
  let main_v0 : FVec F S1536x1024 .f32 := Host.absf main_arg0
  let main_cst : FVec F S_ .f32 := constant S_ .f32 0x7F800000#32
  let main_v1 : FVec F S1536x1024 .f32 := broadcastInDim S1536x1024 ![] bcast_S_S1536x1024 main_cst
  let main_v2 : IVec S1536x1024 1 := cmpf .olt main_v0 main_v1
  main_v2
-- ==== Kernel.lean ====
abbrev S768x512 : Shape := ⟨2, ![768, 512]⟩
abbrev S512 : Shape := ⟨1, ![512]⟩
abbrev S1x512 : Shape := ⟨2, ![1, 512]⟩
abbrev S2x768 : Shape := ⟨2, ![2, 768]⟩
abbrev S2 : Shape := ⟨1, ![2]⟩
abbrev S_ : Shape := ⟨0, ![]⟩
abbrev S384x512 : Shape := ⟨2, ![384, 512]⟩
abbrev S384 : Shape := ⟨1, ![384]⟩
abbrev S384x1 : Shape := ⟨2, ![384, 1]⟩
abbrev S384x2 : Shape := ⟨2, ![384, 2]⟩
abbrev S2x384 : Shape := ⟨2, ![2, 384]⟩
abbrev S1 : Shape := ⟨1, ![1]⟩
abbrev S1x384 : Shape := ⟨2, ![1, 384]⟩

abbrev nBuf : Space → Nat
  | .hbm => 6
  | .vmem => 6
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S768x512, .f32⟩
  | .local _ .vmem, ⟨0, _⟩ => ⟨S768x512, .f32⟩
  | .local _ .vmem, ⟨1, _⟩ => ⟨S1x512, .f32⟩
  | .local _ .vmem, ⟨2, _⟩ => ⟨S1x512, .f32⟩
  | .local _ .vmem, ⟨3, _⟩ => ⟨S768x512, .f32⟩
  | .local _ .vmem, ⟨4, _⟩ => ⟨S2x768, .f32⟩
  | .local _ .vmem, ⟨5, _⟩ => ⟨S2x768, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v24 : BitVec 32 := Scalar.muli v2 c2_i32_13
  let v25 : BitVec 32 := Scalar.addi c0_i32_14 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v26 : BitVec 32 := Scalar.muli v6 c1_i32_15
  let v27 : BitVec 32 := Scalar.addi v25 v26
  v27.toNat
def k0_dev3 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v46 : BitVec 32 := Scalar.muli v2 c2_i32_27
  let v47 : BitVec 32 := Scalar.addi c0_i32_28 v46
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v48 : BitVec 32 := Scalar.muli v6 c1_i32_29
  let v49 : BitVec 32 := Scalar.addi v47 v48
  v49.toNat
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1536x1024 : Shape := ⟨2, ![1536, 1024]⟩
abbrev S1024 : Shape := ⟨1, ![1024]⟩
abbrev S_ : Shape := ⟨0, ![]⟩
abbrev S1536 : Shape := ⟨1, ![1536]⟩
abbrev S1536x1 : Shape := ⟨2, ![1536, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S1536, .f32⟩
  | .hbm, ⟨5, _⟩ => ⟨S1536x1, .f32⟩
  | .hbm, ⟨6, _⟩ => ⟨S_, .f32⟩
  | .hbm, ⟨7, _⟩ => ⟨S1536x1, .f32⟩
  | .hbm, ⟨8, _⟩ => ⟨S1536x1, .f32⟩
  | .hbm, ⟨9, _⟩ => ⟨S_, .i32⟩
  | .hbm, ⟨10, _⟩ => ⟨S_, .f32⟩
  | .hbm, ⟨11, _⟩ => ⟨S1536, .f32⟩
  | .hbm, ⟨12, _⟩ => ⟨S1536x1, .f32⟩
  | .hbm, ⟨13, _⟩ => ⟨S_, .f32⟩
  | .hbm, ⟨14, _⟩ => ⟨S1536x1, .f32⟩
  | .hbm, ⟨15, _⟩ => ⟨S1536x1, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1536, .f32⟩
  | .hbm, ⟨24, _⟩ => ⟨S1536x1, .f32⟩
  | .hbm, ⟨25, _⟩ => ⟨S1536x1, .f32⟩
  | .hbm, ⟨26, _⟩ => ⟨S1536x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1536x1, .f32⟩
  | .hbm, ⟨32, _⟩ => ⟨S1536x1, .f32⟩
  | .hbm, ⟨33, _⟩ => ⟨S1536x1024, .f32⟩
  | .hbm, ⟨34, _⟩ => ⟨S1536x1024, .f32⟩
  | .hbm, ⟨35, _⟩ => ⟨S1x1024, .f32⟩
  | .hbm, ⟨36, _⟩ => ⟨S1536x1024, .f32⟩
  | .hbm, ⟨37, _⟩ => ⟨S1536x1024, .f32⟩
  | .hbm, ⟨38, _⟩ => ⟨S_, .f32⟩
  | .hbm, ⟨39, _⟩ => ⟨S1536x1, .f32⟩
  | .hbm, ⟨40, _⟩ => ⟨S1536x1, .f32⟩
  | .hbm, ⟨41, _⟩ => ⟨S1536x1, .f32⟩
  | .hbm, ⟨42, _⟩ => ⟨S1536x1024, .f32⟩
  | .hbm, ⟨43, _⟩ => ⟨S1536x1024, .f32⟩
  | .hbm, ⟨44, _⟩ => ⟨S1x1024, .f32⟩
  | .hbm, ⟨45, _⟩ => ⟨S1536x1024, .f32⟩
  | .hbm, ⟨46, _⟩ => ⟨S1536x1024, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Exchange.lean ====
/-
The layer norm's exchange of row statistics, as a protocol: who the devices are, what their buffers hold,
which semaphore cell is raised when and by whom, and what each raise hands over.

The four devices form a 2x2 mesh. The two devices of one mesh row hold the left and the right half of the
same 768 rows. Each adds up its 512 columns of every row (the sum and the sum of squares, two numbers a
row) and sends them to the other device of the pair, in two halves of 384 rows each. Per device there are five
cells: the barrier (raised by the partner once, and handing over the partner's landing buffer), one send
cell and one receive cell for each half.
-/
module

public import proofs.«01_k».proof.Proof.Gen.KernelIdeal.Skeleton
public import proofs.«01_k».proof.Proof.Gen.KernelIdeal.Frame
public import Idealize.ShloMosaic.Lib.Rounds
public import Idealize.ShloMosaic.Lib.Tactic

@[expose] public section

noncomputable section

namespace Cert.KernelIdeal.Norm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: one copy of the rounds algebra for the staging pipeline, one for this protocol. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The pairs of devices -/

/-- The other device of `c`'s mesh row. -/
def peer (c : Dev nD) : Dev nD := ⟨(2 * (c.val / 2) + 1) - c.val % 2, by have := c.isLt; simp only [nD] at this ⊢; omega⟩

theorem peer_peer (c : Dev nD) : peer (peer c) = c := by
  apply Fin.ext; simp only [peer]; omega

def swap : Dev nD ≃ Dev nD := ⟨peer, peer, peer_peer, peer_peer⟩

/-- The three places where the kernel computes a partner's index name that partner. -/
theorem dev1_peer (c : Dev nD) : (⟨k0_dev1 c, k0_dev1_lt c⟩ : Dev nD) = peer c := Fin.ext (k0_dev1_eq c)
theorem dev2_peer (c : Dev nD) : (⟨k0_dev2 c, k0_dev2_lt c⟩ : Dev nD) = peer c := Fin.ext (k0_dev2_eq c)
theorem dev3_peer (c : Dev nD) : (⟨k0_dev3 c, k0_dev3_lt c⟩ : Dev nD) = peer c := Fin.ext (k0_dev3_eq c)

/-! ## The halves of the buffers -/

abbrev xM : Memref sig .tc .vmem S768x512 .f32 := Memref.whole cc0_stg0_0
abbrev gM : Memref sig .tc .vmem S1x512 .f32 := Memref.whole cc0_stg1_0
abbrev bM : Memref sig .tc .vmem S1x512 .f32 := Memref.whole cc0_stg2_0
abbrev oM : Memref sig .tc .vmem S768x512 .f32 := Memref.whole cc0_stg3_0
/-- The device's own statistics, and the landing buffer for its partner's. -/
abbrev sM : Memref sig .tc .vmem S2x768 .f32 := Memref.whole cc0_scratch0
abbrev rM : Memref sig .tc .vmem S2x768 .f32 := Memref.whole cc0_scratch1

theorem cols_inb (h : Fin 2) : ∀ a, (![0, 384 * h.val] : Fin 2 → ℕ) a + S2x384.size a ≤ S2x768.size a := by
  revert h; decide
theorem rows_inb (h : Fin 2) : ∀ a, (![384 * h.val, 0] : Fin 2 → ℕ) a + S384x512.size a ≤ S768x512.size a := by
  revert h; decide

/-- Half `h` of a statistics buffer: the columns of the rows `384 h .. 384 h + 383`. -/
abbrev cols (h : Fin 2) : Rect S2x768 := Rect.unit (s := S2x768) ![0, 384 * h.val] S2x384.size (cols_inb h)
/-- Half `h` of a block's rows. -/
abbrev rows (h : Fin 2) : Rect S768x512 := Rect.unit (s := S768x512) ![384 * h.val, 0] S384x512.size (rows_inb h)

/-- A statistics buffer put together from its two halves. -/
def joinCols (w : Fin 2 → S2x384.Idx → Elt F .f32) : S2x768.Idx → Elt F .f32 := fun i =>
  w ⟨(i 1).val / 384, by have : (i 1).val < 768 := (i 1).isLt; omega⟩
    (fun a => match a with
      | ⟨0, _⟩ => ⟨(i 0).val, (i 0).isLt⟩
      | ⟨1, _⟩ => ⟨(i 1).val % 384, Nat.mod_lt _ (by decide)⟩
      | ⟨_ + 2, h⟩ => absurd h (by simp))

/-- A block put together from its two halves of rows. -/
def joinRows (w : Fin 2 → S384x512.Idx → Elt F .f32) : S768x512.Idx → Elt F .f32 := fun i =>
  w ⟨(i 0).val / 384, by have : (i 0).val < 768 := (i 0).isLt; omega⟩
    (fun a => match a with
      | ⟨0, _⟩ => ⟨(i 0).val % 384, Nat.mod_lt _ (by decide)⟩
      | ⟨1, _⟩ => ⟨(i 1).val, (i 1).isLt⟩
      | ⟨_ + 2, h⟩ => absurd h (by simp))

theorem joinCols_at (w : Fin 2 → S2x384.Idx → Elt F .f32) (h : Fin 2) (j : S2x384.Idx) (i : S2x768.Idx)
    (h0 : (i 0).val = (j 0).val) (h1 : (i 1).val = 384 * h.val + (j 1).val) : joinCols w i = w h j := by
  have hj : (j 1).val < 384 := (j 1).isLt
  unfold joinCols
  congr 1
  · exact Fin.ext (show (i 1).val / 384 = h.val by omega)
  · funext a; match a with
    | ⟨0, _⟩ => exact Fin.ext h0
    | ⟨1, _⟩ => exact Fin.ext (show (i 1).val % 384 = (j 1).val by omega)

theorem joinRows_at (w : Fin 2 → S384x512.Idx → Elt F .f32) (h : Fin 2) (j : S384x512.Idx) (i : S768x512.Idx)
    (h0 : (i 0).val = 384 * h.val + (j 0).val) (h1 : (i 1).val = (j 1).val) : joinRows w i = w h j := by
  have hj : (j 0).val < 384 := (j 0).isLt
  unfold joinRows
  congr 1
  · exact Fin.ext (show (i 0).val / 384 = h.val by omega)
  · funext a; match a with
    | ⟨0, _⟩ => exact Fin.ext (show (i 0).val % 384 = (j 0).val by omega)
    | ⟨1, _⟩ => exact Fin.ext h1

/-- Reading half `h` of a joined statistics buffer gives that half: of the own one, -/
theorem read_s (w : Fin 2 → S2x384.Idx → Elt F .f32) (h : Fin 2) : (sM.access (cols h)).read (Elt F) (joinCols w) = w h :=
  funext fun j => joinCols_at w h j _ (by show 0 + 1 * (j 0).val = _; omega) (by show 384 * h.val + 1 * (j 1).val = _; omega)
/-- and of the landing buffer. -/
theorem read_r (w : Fin 2 → S2x384.Idx → Elt F .f32) (h : Fin 2) : (rM.access (cols h)).read (Elt F) (joinCols w) = w h :=
  funext fun j => joinCols_at w h j _ (by show 0 + 1 * (j 0).val = _; omega) (by show 384 * h.val + 1 * (j 1).val = _; omega)
/-- Likewise for the rows of the result. -/
theorem read_o (w : Fin 2 → S384x512.Idx → Elt F .f32) (h : Fin 2) : (oM.access (rows h)).read (Elt F) (joinRows w) = w h :=
  funext fun j => joinRows_at w h j _ (by show 384 * h.val + 1 * (j 0).val = _; omega) (by show 0 + 1 * (j 1).val = _; omega)

theorem cols_disjoint : Disjoint (cols 0).set (cols 1).set :=
  Rect.unit_disjoint (1 : Fin 2) (by decide)
theorem cols_cover : (cols 0).set ∪ (cols 1).set = Finset.univ := by
  ext i
  have h0 : (i 0).val < 2 := (i 0).isLt
  have h1 : (i 1).val < 768 := (i 1).isLt
  simp only [Finset.mem_union, Finset.mem_univ, iff_true, Rect.mem_set_unit, Fin.forall_fin_two]
  by_cases hlt : (i 1).val < 384
  · left; exact ⟨⟨Nat.zero_le _, by show (i 0).val < 0 + 2; omega⟩, ⟨Nat.zero_le _, by show (i 1).val < 0 + 384; omega⟩⟩
  · right; exact ⟨⟨Nat.zero_le _, by show (i 0).val < 0 + 2; omega⟩, ⟨by show 384 ≤ _; omega, by show (i 1).val < 384 + 384; omega⟩⟩
theorem rows_disjoint : Disjoint (rows 0).set (rows 1).set :=
  Rect.unit_disjoint (0 : Fin 2) (by decide)
theorem rows_cover : (rows 0).set ∪ (rows 1).set = Finset.univ := by
  ext i
  have h0 : (i 0).val < 768 := (i 0).isLt
  have h1 : (i 1).val < 512 := (i 1).isLt
  simp only [Finset.mem_union, Finset.mem_univ, iff_true, Rect.mem_set_unit, Fin.forall_fin_two]
  by_cases hlt : (i 0).val < 384
  · left; exact ⟨⟨Nat.zero_le _, by show (i 0).val < 0 + 384; omega⟩, ⟨Nat.zero_le _, by show (i 1).val < 0 + 512; omega⟩⟩
  · right; exact ⟨⟨by show 384 ≤ _; omega, by show (i 0).val < 384 + 384; omega⟩, ⟨Nat.zero_le _, by show (i 1).val < 0 + 512; omega⟩⟩

/-! ## What the buffers hold -/

/-- Device `c`'s block of `x`, and its pieces of `gamma` and `beta`, as staged for the kernel. -/
def xs (c : Dev nD) : (cc0_stg0_0 : Ref sig .tc).ty.Contents (Elt F) := iblk m c 0 t0_0
def gs (c : Dev nD) : (cc0_stg1_0 : Ref sig .tc).ty.Contents (Elt F) := iblk m c 1 t0_0
def bs (c : Dev nD) : (cc0_stg2_0 : Ref sig .tc).ty.Contents (Elt F) := iblk m c 2 t0_0

/-- Half `h` of the rows of device `c`'s block. -/
def xh (c : Dev nD) (h : Fin 2) : S384x512.Idx → Elt F .f32 := (xM.access (rows h)).read (Elt F) (xs m c)
abbrev r1x512 : Rect S1x512 := Rect.unit (s := S1x512) ![0, 0] S1x512.size inb_S1x512_S1x512_0_0
def gv (c : Dev nD) : S1x512.Idx → Elt F .f32 := (gM.access r1x512).read (Elt F) (gs m c)
def bv (c : Dev nD) : S1x512.Idx → Elt F .f32 := (bM.access r1x512).read (Elt F) (bs m c)

/-- The two sums of each of those rows, over the device's own columns. -/
def sums (c : Dev nD) (h : Fin 2) : S2x384.Idx → Elt F .f32 := k0_pay1 (xh m c h)
/-- The normalized rows, from the device's sums and its partner's. -/
def normed (c : Dev nD) (h : Fin 2) : S384x512.Idx → Elt F .f32 :=
  k0_pay3 (sums m c h) (sums m (peer c) h) (xh m c h) (gv m c) (bv m c)

/-- Device `c`'s own statistics buffer, its landing buffer, its result, each complete. -/
def statsOf (c : Dev nD) : S2x768.Idx → Elt F .f32 := joinCols (sums m c)
def landOf (c : Dev nD) : S2x768.Idx → Elt F .f32 := joinCols (sums m (peer c))
def outOf (c : Dev nD) : S768x512.Idx → Elt F .f32 := joinRows (normed m c)

/-! ## The memory a half of a buffer occupies -/

abbrev sH (h : Fin 2) : Memref sig .tc .vmem S2x384 .f32 := sM.slice (cols h) (fun _ => rfl)
abbrev rH (h : Fin 2) : Memref sig .tc .vmem S2x384 .f32 := rM.slice (cols h) (fun _ => rfl)

/-- Half `h` of `c`'s statistics buffer at share `q`, of its landing buffer, of its result buffer. -/
abbrev sPts (c : Dev nD) (h : Fin 2) (q : PosShare TreeShare) (f : S2x768.Idx → Elt F .f32) : sProp 𝕄 :=
  (sH h).view.loc (c : Thread nD τ) ↦[(sH h).view.set]{q} f
abbrev rPts (c : Dev nD) (h : Fin 2) (f : S2x768.Idx → Elt F .f32) : sProp 𝕄 :=
  (rH h).view.loc (c : Thread nD τ) ↦[(rH h).view.set]{fullShare} f
abbrev oPts (c : Dev nD) (h : Fin 2) (f : S768x512.Idx → Elt F .f32) : sProp 𝕄 :=
  (oM.access (rows h)).loc (c : Thread nD τ) ↦[(oM.access (rows h)).set]{fullShare} f

/-- The elements under a view are held at whatever contents read the same through it. -/
theorem held_read {c : Dev nD} {sp : Space} {s : Shape} {e : EltTy} (v : View sig .tc sp s e) (q : PosShare TreeShare)
    (f g : v.ty.Contents (Elt F)) (h : v.read (Elt F) f = v.read (Elt F) g) :
    (v.loc (c : Thread nD τ) ↦[v.set]{q} f : sProp 𝕄) = v.loc (c : Thread nD τ) ↦[v.set]{q} g := by
  refine pointsTo_congr fun i hi => ?_
  obtain ⟨x, -, rfl⟩ := Finset.mem_map.mp hi
  exact (cast_bijective (congrArg (Elt F) v.elt_eq)).1 (congrFun h x)

/-- A whole statistics buffer is its two halves, -/
theorem s_split (c : Dev nD) (q : PosShare TreeShare) (f : S2x768.Idx → Elt F .f32) :
    (((c : Thread nD τ).loc cc0_scratch0) ↦{q} f : sProp 𝕄) ⊣⊢ iprop(sPts c 0 q f ∗ sPts c 1 q f) := by
  have e0 : (sH 0).view.set = (cols 0).set := View.set_slice_whole cc0_scratch0 (cols 0)
  have e1 : (sH 1).view.set = (cols 1).set := View.set_slice_whole cc0_scratch0 (cols 1)
  unfold sPts; rw [e0, e1]
  have := pointsTo_union (Ix := Unit) (Name := ℕ) (U := UU) (Lvl := ℕ) (Val := Elt F) (ℓ := (c : Thread nD τ).loc cc0_scratch0) (q := q) (f := f) cols_disjoint
  rw [cols_cover] at this; exact this
/-- so is a whole landing buffer, -/
theorem r_split (c : Dev nD) (f : S2x768.Idx → Elt F .f32) :
    (((c : Thread nD τ).loc cc0_scratch1) ↦{fullShare} f : sProp 𝕄) ⊣⊢ iprop(rPts c 0 f ∗ rPts c 1 f) := by
  have e0 : (rH 0).view.set = (cols 0).set := View.set_slice_whole cc0_scratch1 (cols 0)
  have e1 : (rH 1).view.set = (cols 1).set := View.set_slice_whole cc0_scratch1 (cols 1)
  unfold rPts; rw [e0, e1]
  have := pointsTo_union (Ix := Unit) (Name := ℕ) (U := UU) (Lvl := ℕ) (Val := Elt F) (ℓ := (c : Thread nD τ).loc cc0_scratch1) (q := fullShare) (f := f) cols_disjoint
  rw [cols_cover] at this; exact this
/-- and a whole result buffer. -/
theorem o_split (c : Dev nD) (f : S768x512.Idx → Elt F .f32) :
    (((c : Thread nD τ).loc cc0_stg3_0) ↦{fullShare} f : sProp 𝕄) ⊣⊢ iprop(oPts c 0 f ∗ oPts c 1 f) := by
  have e0 : (oM.access (rows 0)).set = (rows 0).set := View.set_slice_whole cc0_stg3_0 (rows 0)
  have e1 : (oM.access (rows 1)).set = (rows 1).set := View.set_slice_whole cc0_stg3_0 (rows 1)
  unfold oPts; rw [e0, e1]
  have := pointsTo_union (Ix := Unit) (Name := ℕ) (U := UU) (Lvl := ℕ) (Val := Elt F) (ℓ := (c : Thread nD τ).loc cc0_stg3_0) (q := fullShare) (f := f) rows_disjoint
  rw [rows_cover] at this; exact this
/-- A half of the statistics is lent out at half the share, the rest kept for loading. -/
theorem s_lend (c : Dev nD) (h : Fin 2) (f : S2x768.Idx → Elt F .f32) :
    (sPts c h fullShare f : sProp 𝕄) ⊣⊢ iprop(sPts c h fullShare.left f ∗ sPts c h fullShare.right f) :=
  pointsTo_share (PosShare.mem_left_op_right fullShare)

/-- Storing a half leaves it held at any contents with that half. -/
theorem s_stored (c : Dev nD) (h : Fin 2) (q : PosShare TreeShare) (f : S2x768.Idx → Elt F .f32) (w : Fin 2 → S2x384.Idx → Elt F .f32) :
    ((sM.access (cols h)).loc (c : Thread nD τ) ↦[(sM.access (cols h)).set]{q} (sM.access (cols h)).write (Elt F) f (w h) Finset.univ : sProp 𝕄)
      = sPts c h q (joinCols w) :=
  held_read _ _ _ _ ((View.read_write_univ _ _).trans (read_s w h).symm)
theorem o_stored (c : Dev nD) (h : Fin 2) (f : S768x512.Idx → Elt F .f32) (w : Fin 2 → S384x512.Idx → Elt F .f32) :
    ((oM.access (rows h)).loc (c : Thread nD τ) ↦[(oM.access (rows h)).set]{fullShare} (oM.access (rows h)).write (Elt F) f (w h) Finset.univ : sProp 𝕄)
      = oPts c h (joinRows w) :=
  held_read _ _ _ _ ((View.read_write_univ _ _).trans (read_o w h).symm)
/-- A half of the partner's statistics, landed. -/
theorem r_landed (c : Dev nD) (h : Fin 2) (f : S2x768.Idx → Elt F .f32) (w : Fin 2 → S2x384.Idx → Elt F .f32) :
    ((rH h).view.loc (c : Thread nD τ) ↦[(rH h).view.set]{fullShare} (rH h).view.write (Elt F) f ((sH h).view.read (Elt F) (joinCols w)) Finset.univ : sProp 𝕄)
      = rPts c h (joinCols w) :=
  held_read _ _ _ _ ((View.read_write_univ _ _).trans ((read_s w h).trans (read_r w h).symm))

/-! ## The cells -/

abbrev barS : Sem sig := (SemArray.scalar (sig.barrier 0 rfl) : Sems sig S_).sem
abbrev sendS (h : Fin 2) : DmaSem sig := ⟨4 + h.val, by show 4 + h.val < 8; omega⟩
abbrev recvS (h : Fin 2) : DmaSem sig := ⟨6 + h.val, by show 6 + h.val < 8; omega⟩

abbrev barCell (c : Dev nD) : GSem nD τ sig := ((c : Thread nD τ), .reg barS)
abbrev sendCell (c : Dev nD) (h : Fin 2) : GSem nD τ sig := ((c : Thread nD τ), .dma (sendS h))
abbrev recvCell (c : Dev nD) (h : Fin 2) : GSem nD τ sig := ((c : Thread nD τ), .dma (recvS h))

/-- The kernel's own scoped semaphores. -/
abbrev osem : Fin 4 → SemLoc sig := fun | 0 => .dma (sendS 0) | 1 => .dma (sendS 1) | 2 => .dma (recvS 0) | 3 => .dma (recvS 1)

/-- What one half's transfer credits. -/
abbrev N : ℕ := (rH 0).view.dmaCredit
theorem credit_half (h : Fin 2) : (rH h).view.dmaCredit = N := by fin_cases h <;> rfl
theorem N_pos : 0 < N := View.dmaCredit_pos _ (by decide)

/-- Paid to `c`'s barrier by its partner: the partner's landing buffer, whose two receive cells are at their first round. -/
def barPay (c : Dev nD) : sProp 𝕄 :=
  iprop((∃ f, rPts (peer c) 0 f) ∗ (∃ f, rPts (peer c) 1 f) ∗ reached ER (recvCell (peer c) 0) 0 ∗ reached ER (recvCell (peer c) 1) 0)

/-- What a raise of a DMA cell hands over: the lent half of the source, or the landed half. -/
def dmaPay (c : Dev nD) (q : DmaSem sig) : sProp 𝕄 :=
  if q = sendS 0 then sPts c 0 fullShare.left (statsOf m c)
  else if q = sendS 1 then sPts c 1 fullShare.left (statsOf m c)
  else if q = recvS 0 then rPts c 0 (landOf m c)
  else if q = recvS 1 then rPts c 1 (landOf m c)
  else iprop(emp)

abbrev IsDma (s : SemLoc sig) : Prop := ∃ k : Fin 4, s = osem k

/-- One round on every cell of the exchange: one duty, of one unit on a barrier and of a half's credit elsewhere. -/
def sched : Rounds.Schedule (GSem nD τ sig) Unit 𝕄 where
  duties g r := if r = 0 ∧ g.1.2 = .tc ∧ (g.2 = .reg barS ∨ IsDma g.2) then {()} else ∅
  unitless _ := False
  amount g _ _ := if g.2 = .reg barS then 1 else N
  payload g _ _ := match g.2 with
    | .reg _ => barPay g.1.1
    | .dma q => dmaPay m g.1.1 q
  amount_pos g _ _ _ := by
    show 0 < (if g.2 = .reg barS then 1 else N)
    split
    · exact Nat.one_pos
    · exact N_pos

instance sched_storable (g : GSem nD τ sig) (r : ℕ) (d : Unit) : BI.Storable (upEmb : UEmb _ 𝕄) ((sched (F := F) m).payload g r d) := by
  obtain ⟨t, _ | q⟩ := g
  · show BI.Storable upEmb (barPay t.1); unfold barPay; infer_instance
  · show BI.Storable upEmb (dmaPay m t.1 q); unfold dmaPay
    (repeat' split) <;> infer_instance

section Sched

variable (c : Dev nD)

theorem isDma_send (h : Fin 2) : IsDma (.dma (sendS h)) := by revert h; decide
theorem isDma_recv (h : Fin 2) : IsDma (.dma (recvS h)) := by revert h; decide

theorem duties_bar : (sched (F := F) m).duties (barCell c) 0 = {()} := rfl
theorem duties_dma {q : DmaSem sig} (hq : IsDma (.dma q)) : (sched (F := F) m).duties ((c : Thread nD τ), .dma q) 0 = {()} :=
  if_pos ⟨rfl, rfl, .inr hq⟩
theorem duties_later (g : GSem nD τ sig) (r : ℕ) (hr : 1 ≤ r) : (sched (F := F) m).duties g r = ∅ :=
  if_neg fun h => by omega
theorem amount_bar (u : Unit) : (sched (F := F) m).amount (barCell c) 0 u = 1 := rfl
theorem amount_dma (q : DmaSem sig) (u : Unit) : (sched (F := F) m).amount ((c : Thread nD τ), .dma q) 0 u = N := rfl
theorem expect_bar : (sched (F := F) m).expect (barCell c) 0 = 1 := by
  unfold Schedule.expect Schedule.amountOf; rw [duties_bar, Finset.sum_singleton, amount_bar]
theorem expect_dma {q : DmaSem sig} (hq : IsDma (.dma q)) : (sched (F := F) m).expect ((c : Thread nD τ), .dma q) 0 = N := by
  unfold Schedule.expect Schedule.amountOf; rw [duties_dma m c hq, Finset.sum_singleton, amount_dma]

theorem pay_send (h : Fin 2) : dmaPay m c (sendS h) = (sPts c h fullShare.left (statsOf m c) : sProp 𝕄) := by
  fin_cases h
  · exact if_pos rfl
  · exact (if_neg (by decide)).trans (if_pos rfl)
theorem pay_recv (h : Fin 2) : dmaPay m c (recvS h) = (rPts c h (landOf m c) : sProp 𝕄) := by
  fin_cases h
  · exact (if_neg (by decide)).trans ((if_neg (by decide)).trans (if_pos rfl))
  · exact (if_neg (by decide)).trans ((if_neg (by decide)).trans ((if_neg (by decide)).trans (if_pos rfl)))

theorem pay_bar (u : Unit) : (sched (F := F) m).payload (barCell c) 0 u = barPay c := rfl
theorem rest_bar : bigSep ((sched (F := F) m).duties (barCell c) 0 \ ∅) (fun u => (sched (F := F) m).payload (barCell c) 0 u) = barPay c := by
  rw [Finset.sdiff_empty, duties_bar, bigSep_singleton]; rfl
theorem rest_dma {q : DmaSem sig} (hq : IsDma (.dma q)) :
    bigSep ((sched (F := F) m).duties ((c : Thread nD τ), .dma q) 0 \ ∅) (fun u => (sched (F := F) m).payload ((c : Thread nD τ), .dma q) 0 u)
      = dmaPay m c q := by
  rw [Finset.sdiff_empty, duties_dma m c hq, bigSep_singleton]; rfl

end Sched

/-! ## What each device owes, and the order of the waits -/

/-- After the barrier signal a device owes its partner's two receive cells the halves' credit, the first half's on top. -/
def O₂ (c : Dev nD) : CellTallies nD τ sig Unit := tallyAt (recvCell (peer c) 1) () N + tallyAt (recvCell (peer c) 0) () N
/-- At launch it also owes the partner's barrier one unit. -/
def O₀ (c : Dev nD) : CellTallies nD τ sig Unit := O₂ c + tallyAt (barCell (peer c)) () 1

def L (g : GSem nD τ sig) : Finset Unit := if g.1.2 = .tc then {()} else ∅
/-- Barriers below receive cells, every other cell at the bottom. -/
def lv (g : GSem nD τ sig) (_ : Unit) : ℕ :=
  match g.2 with
  | .reg _ => 1
  | .dma q => if q = recvS 0 ∨ q = recvS 1 then 2 else 0

theorem L_of_ne (g : GSem nD τ sig) (h : g.1.2 ≠ .tc) : L g = ∅ := if_neg h
theorem mem_L (c : Dev nD) (s : SemLoc sig) (u : Unit) : u ∈ L ((c : Thread nD τ), s) := by
  rw [show L ((c : Thread nD τ), s) = {()} from if_pos rfl]; exact Finset.mem_singleton_self _
theorem lv_recv (c : Dev nD) (h : Fin 2) (u : Unit) : lv (recvCell c h) u = 2 := by
  fin_cases h <;> rfl

theorem tallyAt_pos {g g' : GSem nD τ sig} {u u' : Unit} {n : ℕ} (h : 0 < (tallyAt g u n : CellTallies nD τ sig Unit) g' u') : g' = g := by
  rw [tallyAt_apply] at h
  split at h
  · next e => exact e.1
  · exact absurd h (Nat.lt_irrefl 0)
theorem O₂_pos {c : Dev nD} {g : GSem nD τ sig} {u : Unit} (h : 0 < O₂ c g u) : ∃ k : Fin 2, g = recvCell (peer c) k := by
  unfold O₂ at h
  rw [Pi.add_apply, Finsupp.add_apply] at h
  rcases Nat.add_pos_iff_pos_or_pos.mp h with h | h
  · exact ⟨1, tallyAt_pos h⟩
  · exact ⟨0, tallyAt_pos h⟩
theorem O₀_pos {c : Dev nD} {g : GSem nD τ sig} {u : Unit} (h : 0 < O₀ c g u) : (∃ k : Fin 2, g = recvCell (peer c) k) ∨ g = barCell (peer c) := by
  unfold O₀ at h
  rw [Pi.add_apply, Finsupp.add_apply] at h
  rcases Nat.add_pos_iff_pos_or_pos.mp h with h | h
  · exact .inl (O₂_pos h)
  · exact .inr (tallyAt_pos h)

/-- Waiting at the barrier, a device owes only receive cells, which lie above it. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp]; exact mem_L c _ _)
    (fun g u hg => by obtain ⟨k, rfl⟩ := O₂_pos hg; exact mem_L _ _ _)
    (fun p hp => by rw [Finset.mem_singleton.mp hp]; exact le_refl 1)
    (fun g u hg => by obtain ⟨k, rfl⟩ := O₂_pos hg; rw [lv_recv]; decide)

end Cert.KernelIdeal.Norm

end
-- ==== Proof.Body.lean ====
/-
The kernel's body on one device, run symbolically: from the protocol's ghost state and the staged blocks to the
normalized block, the five cells closed and nothing owed.
-/
module

public import proofs.«01_k».proof.Proof.Exchange

@[expose] public section

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The protocol's ghost state on one device -/

/-- The invariants device `c` uses, under the launch's names `K`: of its own five cells, and of its partner's barrier
    (which it signals) and receive cells (which it sends to). -/
def invs (K : GSem nD τ sig → ℕ) (c : Dev nD) : sProp 𝕄 :=
  iprop(cellInv ER (sched m) (K (barCell c)) (barCell c)
    ∗ cellInv ER (sched m) (K (sendCell c 0)) (sendCell c 0) ∗ cellInv ER (sched m) (K (sendCell c 1)) (sendCell c 1)
    ∗ cellInv ER (sched m) (K (recvCell c 0)) (recvCell c 0) ∗ cellInv ER (sched m) (K (recvCell c 1)) (recvCell c 1)
    ∗ cellInv ER (sched m) (K (barCell (peer c))) (barCell (peer c))
    ∗ cellInv ER (sched m) (K (recvCell (peer c) 0)) (recvCell (peer c) 0)
    ∗ cellInv ER (sched m) (K (recvCell (peer c) 1)) (recvCell (peer c) 1))

instance invs_persistent (K : GSem nD τ sig → ℕ) (c : Dev nD) : BI.Persistent (invs m K c) := by unfold invs; infer_instance

/-- The rights to make the five raises that are `c`'s: the partner's barrier and receive cells, its own send cells. -/
def duties (c : Dev nD) : sProp 𝕄 :=
  iprop(dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())

/-- The credit for the waits that others' raises answer. -/
def credit (c : Dev nD) : sProp 𝕄 :=
  iprop(cred (tallyAt (barCell c) () 1) ∗ cred (tallyAt (recvCell c 0) () N) ∗ cred (tallyAt (recvCell c 1) () N))

/-- What `c` carries from launch to the kernel: its four scoped cells are still dormant, with the right to open them. -/
def ghost (K : GSem nD τ sig → ℕ) (c : Dev nD) : sProp 𝕄 :=
  iprop(invs m K c ∗ atPos ER (barCell c) 0 ∅ 0
    ∗ (openTok ER (sendCell c 0) ∗ openTok ER (sendCell c 1) ∗ openTok ER (recvCell c 0) ∗ openTok ER (recvCell c 1))
    ∗ reached ER (barCell (peer c)) 0 ∗ duties c)

/-- The same with the four cells opened. -/
def opened (K : GSem nD τ sig → ℕ) (c : Dev nD) : sProp 𝕄 :=
  iprop(invs m K c ∗ atPos ER (barCell c) 0 ∅ 0
    ∗ ((atPos ER (sendCell c 0) 0 ∅ 0 ∗ reached ER (sendCell c 0) 0) ∗ (atPos ER (sendCell c 1) 0 ∅ 0 ∗ reached ER (sendCell c 1) 0)
      ∗ (atPos ER (recvCell c 0) 0 ∅ 0 ∗ reached ER (recvCell c 0) 0) ∗ (atPos ER (recvCell c 1) 0 ∅ 0 ∗ reached ER (recvCell c 1) 0))
    ∗ reached ER (barCell (peer c)) 0 ∗ duties c)

theorem cell_shut (κ : ℕ) (g : GSem nD τ sig) :
    iprop(cellInv ER (sched m) κ g ∗ atPos ER g (0 + 1) ∅ 0) ⊢ (|={Set.univ}=> semVal g 0 : sProp 𝕄) :=
  Rounds.cell_close ER (sched m) (Set.mem_univ κ) id (duties_later m g)

/-! ## The two rules of the exchange -/

/-- A half of the own statistics sent to the partner's landing buffer: the source at its lent half share, the debt of that
    half's credit discharged. -/
theorem wp_send_half (K : GSem nD τ sig → ℕ) (c n : Dev nD) (hn : n = peer c) (h : Fin 2)
    (O O' : CellTallies nD τ sig Unit) (hO : O' = O + tallyAt (recvCell (peer c) h) () N)
    {hsc : (rH h : Memref sig (Dev.tc n : Thread nD τ).2.kind .vmem S2x384 .f32).view.ref.isScScratch = false}
    {hsrc : (sH h : Memref sig .tc .vmem S2x384 .f32).view.WordExact} {hdst : (rH h : Memref sig .tc .vmem S2x384 .f32).view.WordExact}
    {hsem : DmaTarget.Typed .vmem (.dma (recvS h)) (.remote (Dev.tc n : Thread nD τ) (rH h : Memref sig .tc .vmem S2x384 .f32) (.dma (sendS h)) hsc)}
    {α : Type} {Q : α → sProp 𝕄} {k : PUnit → Prog (TpuEff nD τ sig (Elt F) Λ₀ .tc) α}
    (f : S2x768.Idx → Elt F .f32) (W : Waits sig Unit) :
    iprop(cellInv ER (sched m) (K (sendCell c h)) (sendCell c h) ∗ cellInv ER (sched m) (K (recvCell (peer c) h)) (recvCell (peer c) h)
        ∗ sPts c h fullShare.left (statsOf m c) ∗ rPts (peer c) h f ∗ owes (c : Thread nD τ) O' W
        ∗ dutyTok ER (sendCell c h) 0 () ∗ reached ER (sendCell c h) 0 ∗ dutyTok ER (recvCell (peer c) h) 0 () ∗ reached ER (recvCell (peer c) h) 0)
      ⊢ iprop(((cred (tallyAt (sendCell c h) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sH h) (.remote (Dev.tc n : Thread nD τ) (rH h) (.dma (sendS h)) hsc) (.dma (recvS h)) hsrc hdst hsem) k) Q) := by
  subst hn hO
  exact Rounds.wp_send_pointsTo 𝒱₀ ER (sched m) (c : Thread nD τ) none (c' := (peer c : Thread nD τ)) (src := sH h) (dst := rH h)
    (sS := .dma (sendS h)) (sem := .dma (recvS h)) (q := fullShare.left) (fs := statsOf m c)
    (κ₁ := K (sendCell c h)) (κ₂ := K (recvCell (peer c) h)) (r₁ := 0) (r₂ := 0) (d₁ := ()) (d₂ := ()) (fd := f)
    (by rw [duties_dma m c (isDma_send h)]; exact Finset.mem_singleton_self _)
    (by rw [duties_dma m (peer c) (isDma_recv h)]; exact Finset.mem_singleton_self _)
    () () N (credit_half h) (amount_dma m c (sendS h) ()) (amount_dma m (peer c) (recvS h) ()) O rfl (W := W)
    (by show _ ⊢ dmaPay m c (sendS h); rw [pay_send])
    (by
      show _ ⊢ dmaPay m (peer c) (recvS h)
      rw [pay_recv, statsOf, r_landed (peer c) h f (sums m c), landOf, peer_peer])

/-- A wait on one of the device's DMA cells for the whole credit of a half: it hands over the cell's payload. -/
theorem wp_wait_half (K : GSem nD τ sig → ℕ) (c : Dev nD) (q : DmaSem sig) (hq : IsDma (.dma q)) (O : CellTallies nD τ sig Unit) (W : Waits sig Unit)
    {src dst : Memref sig .tc .vmem S2x384 .f32} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (sched m) (K ((c : Thread nD τ), .dma q)) ((c : Thread nD τ), .dma q) ∗ cred (tallyAt ((c : Thread nD τ), SemLoc.dma q) () N)
        ∗ owes (c : Thread nD τ) O W ∗ MayWait (c : Thread nD τ) (.dma q) () O ∗ atPos ER ((c : Thread nD τ), .dma q) 0 ∅ 0)
      ⊢ iprop(((owes (c : Thread nD τ) O (insert (SemLoc.dma q, ()) W) ∗ atPos ER ((c : Thread nD τ), .dma q) (0 + 1) ∅ 0 ∗ dmaPay m c q)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, HM, Hat⟩ Hk
  iapply (Rounds.wp_wait_rest_token 𝒱₀ ER (sched m) (c : Thread nD τ) none (κ := K ((c : Thread nD τ), .dma q))
      (wpE_waitDma2_eq 𝒱₀ (c : Thread nD τ) none Set.univ) (Set.mem_univ _) () (O := O) (W := W) (R := 0) (m := 0) (T := ∅)
      (by rw [Nat.zero_add, hN, expect_dma m c hq])) $$ [Hc HO HM Hat]
  · isplitr; · iexact HI
    isplitl [Hc]; · iexact Hc
    isplitl [HO]; · iexact HO
    isplitl [HM] <;> iassumption
  iintro ⟨HO, Hat, -, Hpay⟩
  iapply Hk
  isplitl [HO]; · iexact HO
  isplitl [Hat]; · iexact Hat
  iapply (Entails.of_eq (rest_dma m c hq)); iexact Hpay

/-! ## The body -/

/-- Where the body starts: the scratch and result buffers at any contents, everything the device owes still owed. -/
def bodyPre (K : GSem nD τ sig → ℕ) (c : Dev nD) (W : Waits sig Unit) : sProp 𝕄 :=
  iprop(opened m K c ∗ credit c ∗ levAts L lv
    ∗ (∃ f, ((c : Thread nD τ).loc cc0_scratch0) ↦{fullShare} f) ∗ (∃ f, ((c : Thread nD τ).loc cc0_scratch1) ↦{fullShare} f)
    ∗ (((c : Thread nD τ).loc cc0_stg0_0) ↦{fullShare} xs m c) ∗ (((c : Thread nD τ).loc cc0_stg1_0) ↦{fullShare} gs m c)
    ∗ (((c : Thread nD τ).loc cc0_stg2_0) ↦{fullShare} bs m c) ∗ (∃ f, ((c : Thread nD τ).loc cc0_stg3_0) ↦{fullShare} f)
    ∗ owes (c : Thread nD τ) (O₀ c) W)

/-- The four scoped counters at zero. -/
def zeros (c : Dev nD) : sProp 𝕄 :=
  iprop(semVal (sendCell c 0) 0 ∗ semVal (sendCell c 1) 0 ∗ semVal (recvCell c 0) 0 ∗ semVal (recvCell c 1) 0)

/-- Where it ends: the result buffer at the normalized block, the counters at zero, nothing owed. -/
def bodyPost (c : Dev nD) : sProp 𝕄 :=
  iprop(semVal (barCell c) 0 ∗ zeros c
    ∗ (∃ f, ((c : Thread nD τ).loc cc0_scratch0) ↦{fullShare} f) ∗ (∃ f, ((c : Thread nD τ).loc cc0_scratch1) ↦{fullShare} f)
    ∗ (((c : Thread nD τ).loc cc0_stg0_0) ↦{fullShare} xs m c) ∗ (((c : Thread nD τ).loc cc0_stg1_0) ↦{fullShare} gs m c)
    ∗ (((c : Thread nD τ).loc cc0_stg2_0) ↦{fullShare} bs m c) ∗ (((c : Thread nD τ).loc cc0_stg3_0) ↦{fullShare} outOf m c)
    ∗ ∃ W, owes (c : Thread nD τ) (0 : CellTallies nD τ sig Unit) W)

theorem credit_s (h : Fin 2) : (sH h).view.dmaCredit = N := by fin_cases h <;> rfl

/-- The two halves run the same arithmetic. -/
theorem pay2_eq : (k0_pay2 (F := F)) = k0_pay1 := rfl
theorem pay4_eq : (k0_pay4 (F := F)) = k0_pay3 := rfl

/-- The sums stored from the rows loaded. -/
theorem s_written (c : Dev nD) (h : Fin 2) (f : S2x768.Idx → Elt F .f32) :
    ((sM.access (cols h)).loc (c : Thread nD τ) ↦[(sM.access (cols h)).set]{fullShare} (sM.access (cols h)).write (Elt F) f
        (k0_pay1 ((xM.access (rows h)).read (Elt F) (xs m c))) Finset.univ : sProp 𝕄)
      = sPts c h fullShare (statsOf m c) :=
  s_stored c h fullShare f (sums m c)

/-- The rows stored from what the body loads (the own sums, the landed ones, the rows and the two vectors) are the normalized ones. -/
theorem o_written (c : Dev nD) (h : Fin 2) (f : S768x512.Idx → Elt F .f32) :
    ((oM.access (rows h)).loc (c : Thread nD τ) ↦[(oM.access (rows h)).set]{fullShare} (oM.access (rows h)).write (Elt F) f
        (k0_pay3 ((sM.access (cols h)).read (Elt F) (statsOf m c)) ((rM.access (cols h)).read (Elt F) (landOf m c))
          ((xM.access (rows h)).read (Elt F) (xs m c)) ((gM.access r1x512).read (Elt F) (gs m c)) ((bM.access r1x512).read (Elt F) (bs m c)))
        Finset.univ : sProp 𝕄)
      = oPts c h (outOf m c) := by
  rw [statsOf, landOf, read_s, read_r]
  exact o_stored c h f (normed m c)

set_option maxHeartbeats 3200000 in
/-- The body takes `bodyPre` to `bodyPost`, one rule an effect, in program order. -/
theorem run_body (K : GSem nD τ sig → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ (bodyAt0 t0_0) Kt := by
  unfold bodyAt0
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId, pay2_eq, pay4_eq]
  unfold bodyPre opened invs duties credit
  iintro ⟨⟨⟨⟨#HIb, #HIs0, #HIs1, #HIr0, #HIr1, #HIbP, #HIrP0, #HIrP1⟩, HaB, ⟨⟨HaS0, #HrS0⟩, ⟨HaS1, #HrS1⟩, ⟨HaR0, #HrR0⟩, ⟨HaR1, #HrR1⟩⟩, #HrBP,
    HtB, HtR0, HtR1, HtS0, HtS1⟩, ⟨HcB, HcR0, HcR1⟩, #Hlev, ⟨%fs, Hs⟩, ⟨%fr, Hr⟩, Hx, Hg, Hb, ⟨%fo, Ho⟩, HO⟩, Hk⟩
  ihave Hs2 := (s_split c fullShare fs).1 $$ Hs
  icases Hs2 with ⟨Hs0, Hs1⟩
  ihave Hr2 := (r_split c fr).1 $$ Hr
  icases Hr2 with ⟨Hr0, Hr1⟩
  ihave Ho2 := (o_split c fo).1 $$ Ho
  icases Ho2 with ⟨Ho0, Ho1⟩
  simp only [dev1_peer c]
  unfold O₀
  iapply (Rounds.wp_signal 𝒱₀ ER (sched m) (c : Thread nD τ) none (dst := (peer c : Thread nD τ)) (κ := K (barCell (peer c)))
      (d := ()) (by rw [duties_bar]; exact Finset.mem_singleton_self _) ((amount_bar m (peer c) ()).trans (by decide)) () (O₂ c) rfl)
    $$ [HO HtB Hr0 Hr1]
  · isplitr; · iexact HIbP
    isplitl [HO]; · iexact HO
    isplitl [HtB]; · iexact HtB
    isplitl [Hr0 Hr1]
    · rw [pay_bar]; unfold barPay; rw [peer_peer]
      isplitl [Hr0]; · iexists fr; iexact Hr0
      isplitl [Hr1]; · iexists fr; iexact Hr1
      isplitr; · iexact HrR0
      iexact HrR1
    · iexact HrBP
  iintro HO
  -- the first half of the statistics: load, reduce, store
  iapply (wp_load_rect 𝒱₀ (c : Thread nD τ) none Set.univ (m := xM) (r := rows 0) (Finset.subset_univ _)) $$ Hx; iintro Hx
  iapply (wp_load_rect 𝒱₀ (c : Thread nD τ) none Set.univ (m := sM) (r := cols 0) (Finset.Subset.refl _)) $$ Hs0; iintro Hs0
  iapply (wp_store 𝒱₀ (c : Thread nD τ) none Set.univ (m := sM) (r := cols 0) (Mk := Finset.univ) (S := (sM.access (cols 0)).set) (Finset.Subset.refl _)) $$ Hs0; iintro Hs0
  ihave Hs0 := (Entails.of_eq (s_written m c 0 fs)) $$ Hs0
  -- the barrier: the partner's landing buffer comes with it
  iapply (Rounds.wp_wait_rest_token 𝒱₀ ER (sched m) (c : Thread nD τ) none (κ := K (barCell c))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp2 := (Entails.of_eq (rest_bar m c)) $$ Hpay
  unfold barPay
  icases Hp2 with ⟨⟨%fp0, Hp0⟩, ⟨%fp1, Hp1⟩, #HrRP0, #HrRP1⟩
  -- half 0 leaves, its source lent at half share
  ihave HsL := (s_lend c 0 (statsOf m c)).1 $$ Hs0
  icases HsL with ⟨Hl0, Hs0⟩
  iapply (wp_send_half m K c _ (dev2_peer c) 0 (tallyAt (recvCell (peer c) 1) () N) (O₂ c) rfl fp0 (insert (SemLoc.reg barS, ()) W)) $$ [Hl0 Hp0 HO HtS0 HtR0]
  · isplitr; · iexact HIs0
    isplitr; · iexact HIrP0
    isplitl [Hl0]; · iexact Hl0
    isplitl [Hp0]; · iexact Hp0
    isplitl [HO]; · iexact HO
    isplitl [HtS0]; · iexact HtS0
    isplitr; · iexact HrS0
    isplitl [HtR0]; · iexact HtR0
    iexact HrRP0
  iintro ⟨HcS0, HO⟩
  -- the second half of the statistics
  iapply (wp_load_rect 𝒱₀ (c : Thread nD τ) none Set.univ (m := xM) (r := rows 1) (Finset.subset_univ _)) $$ Hx; iintro Hx
  iapply (wp_load_rect 𝒱₀ (c : Thread nD τ) none Set.univ (m := sM) (r := cols 1) (Finset.Subset.refl _)) $$ Hs1; iintro Hs1
  iapply (wp_store 𝒱₀ (c : Thread nD τ) none Set.univ (m := sM) (r := cols 1) (Mk := Finset.univ) (S := (sM.access (cols 1)).set) (Finset.Subset.refl _)) $$ Hs1; iintro Hs1
  ihave Hs1 := (Entails.of_eq (s_written m c 1 fs)) $$ Hs1
  -- half 1 leaves, its source lent at half share
  ihave HsL := (s_lend c 1 (statsOf m c)).1 $$ Hs1
  icases HsL with ⟨Hl1, Hs1⟩
  iapply (wp_send_half m K c _ (dev3_peer c) 1 0 (tallyAt (recvCell (peer c) 1) () N) (zero_add _).symm fp1 (insert (SemLoc.reg barS, ()) W)) $$ [Hl1 Hp1 HO HtS1 HtR1]
  · isplitr; · iexact HIs1
    isplitr; · iexact HIrP1
    isplitl [Hl1]; · iexact Hl1
    isplitl [Hp1]; · iexact Hp1
    isplitl [HO]; · iexact HO
    isplitl [HtS1]; · iexact HtS1
    isplitr; · iexact HrS1
    isplitl [HtR1]; · iexact HtR1
    iexact HrRP1
  iintro ⟨HcS1, HO⟩
  -- the partner's half 0 has landed: normalize these rows
  iapply (wp_wait_half m K c (recvS 0) (isDma_recv 0) 0 _ (src := sH 0) (dst := rH 0) (credit_half 0)) $$ [HcR0 HO HaR0]
  · isplitr; · iexact HIr0
    isplitl [HcR0]; · iexact HcR0
    isplitl [HO]; · iexact HO
    isplitr; · rw [MayWait_zero]; iempintro
    iexact HaR0
  iintro ⟨HO, HaR0, Hpay⟩
  ihave Hr0 := (Entails.of_eq (pay_recv m c 0)) $$ Hpay
  iapply (wp_load_rect 𝒱₀ (c : Thread nD τ) none Set.univ (m := sM) (r := cols 0) (Finset.Subset.refl _)) $$ Hs0; iintro Hs0
  iapply (wp_load_rect 𝒱₀ (c : Thread nD τ) none Set.univ (m := rM) (r := cols 0) (Finset.Subset.refl _)) $$ Hr0; iintro Hr0
  iapply (wp_load_rect 𝒱₀ (c : Thread nD τ) none Set.univ (m := xM) (r := rows 0) (Finset.subset_univ _)) $$ Hx; iintro Hx
  iapply (wp_load_rect 𝒱₀ (c : Thread nD τ) none Set.univ (m := gM) (r := r1x512) (Finset.subset_univ _)) $$ Hg; iintro Hg
  iapply (wp_load_rect 𝒱₀ (c : Thread nD τ) none Set.univ (m := bM) (r := r1x512) (Finset.subset_univ _)) $$ Hb; iintro Hb
  iapply (wp_load_rect 𝒱₀ (c : Thread nD τ) none Set.univ (m := oM) (r := rows 0) (Finset.Subset.refl _)) $$ Ho0; iintro Ho0
  iapply (wp_store 𝒱₀ (c : Thread nD τ) none Set.univ (m := oM) (r := rows 0) (Mk := Finset.univ) (S := (oM.access (rows 0)).set) (Finset.Subset.refl _)) $$ Ho0; iintro Ho0
  ihave Ho0 := (Entails.of_eq (o_written m c 0 fo)) $$ Ho0
  -- the partner's half 1 has landed: normalize these rows
  iapply (wp_wait_half m K c (recvS 1) (isDma_recv 1) 0 _ (src := sH 1) (dst := rH 1) (credit_half 1)) $$ [HcR1 HO HaR1]
  · isplitr; · iexact HIr1
    isplitl [HcR1]; · iexact HcR1
    isplitl [HO]; · iexact HO
    isplitr; · rw [MayWait_zero]; iempintro
    iexact HaR1
  iintro ⟨HO, HaR1, Hpay⟩
  ihave Hr1 := (Entails.of_eq (pay_recv m c 1)) $$ Hpay
  iapply (wp_load_rect 𝒱₀ (c : Thread nD τ) none Set.univ (m := sM) (r := cols 1) (Finset.Subset.refl _)) $$ Hs1; iintro Hs1
  iapply (wp_load_rect 𝒱₀ (c : Thread nD τ) none Set.univ (m := rM) (r := cols 1) (Finset.Subset.refl _)) $$ Hr1; iintro Hr1
  iapply (wp_load_rect 𝒱₀ (c : Thread nD τ) none Set.univ (m := xM) (r := rows 1) (Finset.subset_univ _)) $$ Hx; iintro Hx
  iapply (wp_load_rect 𝒱₀ (c : Thread nD τ) none Set.univ (m := gM) (r := r1x512) (Finset.subset_univ _)) $$ Hg; iintro Hg
  iapply (wp_load_rect 𝒱₀ (c : Thread nD τ) none Set.univ (m := bM) (r := r1x512) (Finset.subset_univ _)) $$ Hb; iintro Hb
  iapply (wp_load_rect 𝒱₀ (c : Thread nD τ) none Set.univ (m := oM) (r := rows 1) (Finset.Subset.refl _)) $$ Ho1; iintro Ho1
  iapply (wp_store 𝒱₀ (c : Thread nD τ) none Set.univ (m := oM) (r := rows 1) (Mk := Finset.univ) (S := (oM.access (rows 1)).set) (Finset.Subset.refl _)) $$ Ho1; iintro Ho1
  ihave Ho1 := (Entails.of_eq (o_written m c 1 fo)) $$ Ho1
  -- half 0 of the source comes back
  iapply (wp_wait_half m K c (sendS 0) (isDma_send 0) 0 _ (src := rH 0) (dst := sH 0) (credit_s 0)) $$ [HcS0 HO HaS0]
  · isplitr; · iexact HIs0
    isplitl [HcS0]; · iexact HcS0
    isplitl [HO]; · iexact HO
    isplitr; · rw [MayWait_zero]; iempintro
    iexact HaS0
  iintro ⟨HO, HaS0, Hpay⟩
  ihave Hl0 := (Entails.of_eq (pay_send m c 0)) $$ Hpay
  ihave Hs0 := (s_lend c 0 (statsOf m c)).2 $$ [Hl0 Hs0]
  · isplitl [Hl0]; · iexact Hl0
    iexact Hs0
  -- half 1 of the source comes back
  iapply (wp_wait_half m K c (sendS 1) (isDma_send 1) 0 _ (src := rH 1) (dst := sH 1) (credit_s 1)) $$ [HcS1 HO HaS1]
  · isplitr; · iexact HIs1
    isplitl [HcS1]; · iexact HcS1
    isplitl [HO]; · iexact HO
    isplitr; · rw [MayWait_zero]; iempintro
    iexact HaS1
  iintro ⟨HO, HaS1, Hpay⟩
  ihave Hl1 := (Entails.of_eq (pay_send m c 1)) $$ Hpay
  ihave Hs1 := (s_lend c 1 (statsOf m c)).2 $$ [Hl1 Hs1]
  · isplitl [Hl1]; · iexact Hl1
    iexact Hs1
  -- the five cells close
  rw [wp_ret]
  imod (cell_shut m (K (barCell c)) (barCell c)) $$ [HaB] with HzB
  · isplitr; · iexact HIb
    iexact HaB
  imod (cell_shut m (K (sendCell c 0)) (sendCell c 0)) $$ [HaS0] with HzS0
  · isplitr; · iexact HIs0
    iexact HaS0
  imod (cell_shut m (K (sendCell c 1)) (sendCell c 1)) $$ [HaS1] with HzS1
  · isplitr; · iexact HIs1
    iexact HaS1
  imod (cell_shut m (K (recvCell c 0)) (recvCell c 0)) $$ [HaR0] with HzR0
  · isplitr; · iexact HIr0
    iexact HaR0
  imod (cell_shut m (K (recvCell c 1)) (recvCell c 1)) $$ [HaR1] with HzR1
  · isplitr; · iexact HIr1
    iexact HaR1
  imodintro
  iapply Hk
  unfold bodyPost zeros
  isplitl [HzB]; · iexact HzB
  isplitl [HzS0 HzS1 HzR0 HzR1]
  · isplitl [HzS0]; · iexact HzS0
    isplitl [HzS1]; · iexact HzS1
    isplitl [HzR0]; · iexact HzR0
    iexact HzR1
  isplitl [Hs0 Hs1]
  · iexists (statsOf m c); iapply (s_split c fullShare (statsOf m c)).2
    isplitl [Hs0]; · iexact Hs0
    iexact Hs1
  isplitl [Hr0 Hr1]
  · iexists (landOf m c); iapply (r_split c (landOf m c)).2
    isplitl [Hr0]; · iexact Hr0
    iexact Hr1
  isplitl [Hx]; · iexact Hx
  isplitl [Hg]; · iexact Hg
  isplitl [Hb]; · iexact Hb
  isplitl [Ho0 Ho1]
  · iapply (o_split c (outOf m c)).2
    isplitl [Ho0]; · iexact Ho0
    iexact Ho1
  iexists _; iexact HO

end Cert.KernelIdeal.Norm

end
-- ==== Proof.Run.lean ====
/-
The whole run: the kernel's region, the host lines before it, and the launch that deals out the protocol's ghost
state. From any memory with all counters at zero the four devices terminate, each with its result array at the
normalized block, its arguments unchanged and every counter at zero.
-/
module

public import proofs.«01_k».proof.Proof.Body
public import Idealize.ShloMosaic.Lib.Pipeline.Regions
public import Idealize.ShloMosaic.Lib.Pipeline.Kit
public import Idealize.ShloMosaic.Lib.StableHlo
public import Idealize.ShloMosaic.Lib.Pipeline.RegionTalk
public import Idealize.ShloMosaic.Lib.Pipeline.ValueKit

@[expose] public section

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- The two scratch buffers, at contents not chosen. -/
abbrev scratch (c : Dev nD) : sProp 𝕄 :=
  iprop((∃ f, ((c : Thread nD τ).loc cc0_scratch0) ↦{fullShare} f) ∗ (∃ f, ((c : Thread nD τ).loc cc0_scratch1) ↦{fullShare} f))

/-- What the protocol brings to the region's start, the four scoped cells being open, -/
def entering (c : Dev nD) : sProp 𝕄 := iprop((∃ K, opened m K c) ∗ credit c ∗ levAts L lv)
/-- and the region's invariant before its one point and after it. -/
def before (c : Dev nD) : sProp 𝕄 := iprop(entering m c ∗ scratch c ∗ ∃ r, prngReg c r)
def behind (c : Dev nD) : sProp 𝕄 := iprop((semVal (barCell c) 0 ∗ zeros c) ∗ scratch c ∗ ∃ r, prngReg c r)

def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf m c
    | ⟨_ + 4, h⟩ => absurd h (by simp)
  Φ t := if t.val = 0 then before m c else behind c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem before_x (c : Dev nD) (d) : (dat m c).before 0 t0_0 d = xs m c :=
  ((dat m c).before_in_eq_fetched 0 rfl (fun _ => rfl) (fun _ _ _ => rfl) (fun t => rfl) t0_0 d).trans rfl
theorem before_g (c : Dev nD) (d) : (dat m c).before 1 t0_0 d = gs m c :=
  ((dat m c).before_in_eq_fetched 1 rfl (fun _ => rfl) (fun _ _ _ => rfl) (fun t => rfl) t0_0 d).trans rfl
theorem before_b (c : Dev nD) (d) : (dat m c).before 2 t0_0 d = bs m c :=
  ((dat m c).before_in_eq_fetched 2 rfl (fun _ => rfl) (fun _ _ _ => rfl) (fun t => rfl) t0_0 d).trans rfl

theorem share_full (c : Dev nD) (w : Fin cfg0.W) : (dat m c).share w = fullShare := by unfold Dat.share; split <;> rfl

theorem owed_first (c : Dev nD) : (dat m c).owed t0_0.castSucc = O₀ c := rfl
theorem owed_last (c : Dev nD) : (dat m c).owed t0_0.succ = 0 := rfl

/-- A whole staging buffer owned at contents is its points-to at those contents. -/
theorem owned_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre (c : Dev nD) : sProp 𝕄 :=
  iprop(before m c ∗ (dat m c).owesAt () t0_0.castSucc
    ∗ (∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d)))
def pointPost (c : Dev nD) : sProp 𝕄 :=
  iprop(behind c ∗ (dat m c).owesAt () t0_0.succ
    ∗ stg c cc0_stg0_0 (xs m c) ∗ stg c cc0_stg1_0 (gs m c) ∗ stg c cc0_stg2_0 (bs m c) ∗ stg c cc0_stg3_0 (outOf m c))

theorem owesAt_some {c : Dev nD} (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO
theorem some_owesAt {c : Dev nD} (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin; rw [h]
  iintro ⟨%W, HO⟩; iexists W
  isplitr; · ipureintro; exact fun _ _ => Or.inl trivial
  iexact HO

theorem point (c : Dev nD) :
    pointPre m c ⊢ wp frame (wpE (defs₀ (F := F)) 𝒱₀ c none) Set.univ (bodyAt0 t0_0) (fun _ => pointPost m c) := by
  unfold pointPre before entering scratch
  iintro ⟨⟨⟨⟨%K, Hop⟩, Hcr, Hlev⟩, ⟨Hs, Hr⟩, Hp⟩, HO, ⟨%d0, %f0, %h0, Hx⟩, ⟨%d1, %f1, %h1, Hg⟩, ⟨%d2, %f2, %h2, Hb⟩, ⟨%d3, %f3, %h3, Ho⟩⟩
  ihave HO' := (owesAt_some m t0_0.castSucc (O₀ c) (owed_first m c)) $$ HO
  icases HO' with ⟨%W, HO⟩
  rw [before_x] at h0
  rw [before_g] at h1
  rw [before_b] at h2
  subst h0 h1 h2
  iapply (run_body m K c W)
  isplitr [Hp]
  · unfold bodyPre
    isplitl [Hop]; · iexact Hop
    isplitl [Hcr]; · iexact Hcr
    isplitl [Hlev]; · iexact Hlev
    isplitl [Hs]; · iexact Hs
    isplitl [Hr]; · iexact Hr
    isplitl [Hx]; · iexact Hx
    isplitl [Hg]; · iexact Hg
    isplitl [Hb]; · iexact Hb
    isplitl [Ho]; · iexists f3; iexact Ho
    iexact HO
  unfold bodyPost pointPost behind scratch
  iintro ⟨HzB, Hz, Hs, Hr, Hx, Hg, Hb, Ho, HO⟩
  isplitl [HzB Hz Hs Hr Hp]
  · isplitl [HzB Hz]
    · isplitl [HzB]; · iexact HzB
      iexact Hz
    isplitl [Hs Hr]
    · isplitl [Hs]; · iexact Hs
      iexact Hr
    iexact Hp
  isplitl [HO]; · iapply (some_owesAt m t0_0.succ 0 (owed_last m c)); iexact HO
  isplitl [Hx]
  · iexists _; isplitr; · (ipureintro; rfl)
    iexact Hx
  isplitl [Hg]
  · iexists _; isplitr; · (ipureintro; rfl)
    iexact Hg
  isplitl [Hb]
  · iexists _; isplitr; · (ipureintro; rfl)
    iexact Hb
  iexists _; isplitr; · (ipureintro; rfl)
  iexact Ho

theorem body_obligation (c : Dev nD) : BodyObligation (dat m c) (defs₀ (F := F)) 𝒱₀ () Set.univ := fun t => by
  rw [fin_N0 t]
  rw [bigSep_W0, bigSep_W0]
  simp only [owned_whole]
  exact point m c

/-! ## The buffers around the region -/

/-- The buffers @main holds throughout. -/
def bufs : Finset (DevRef τ sig) := (StableHlo.tcRefs τ sig).filter fun b => ¬ b.isScoped
abbrev arrs : Finset (DevRef τ sig) := Pipeline.arrRefs (τ := τ) spec0
theorem arrs_sub : arrs ⊆ bufs := by decide

/-- What they hold at launch, at the region's start, and at its end: only the result array is written. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v3) (outOf m c)

theorem V₂_out (c : Dev nD) : V₂ m c (Proc.devRef .tc main_v3) = outOf m c := Function.update_self ..
theorem V₂_else (c : Dev nD) (b : DevRef τ sig) (hb : b ≠ Proc.devRef .tc main_v3) : V₂ m c b = V₁ m c b := Function.update_of_ne hb ..

/-- The one point writes the whole result array. -/
theorem final_out (c : Dev nD) : (dat m c).arrAt 3 cfg0.N = outOf m c := by
  refine (dat m c).arrAt_eq_of_after_last 3 t0_0 (by decide +kernel) _ fun j => ?_
  blk_simp
  rfl

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem ownSems_eq (c : Dev nD) : (Pipeline.ownSems0 osem c : sProp 𝕄) = zeros c := by
  unfold Pipeline.ownSems0
  rw [bigSep_W0]; rfl

/-! ## The region -/

/-- What the launch kept for the region, -/
def kept (c : Dev nD) : sProp 𝕄 := iprop((∃ K, ghost m K c) ∗ credit c)
/-- and what rides with the buffers up to it. -/
def R (c : Dev nD) : sProp 𝕄 := iprop((kept m c ∗ ∃ r, prngReg c r) ∗ ∃ W, owes (c : Thread nD τ) (O₀ c) W)

/-- At the region's start the four scoped cells are opened with their counters. -/
theorem open_cells (c : Dev nD) : iprop(kept m c ∗ Pipeline.ownSems0 osem c ∗ levAts L lv) ⊢ (|={Set.univ}=> entering m c : sProp 𝕄) := by
  rw [ownSems_eq]
  unfold kept zeros ghost invs
  iintro ⟨⟨⟨%K, ⟨#HIb, #HIs0, #HIs1, #HIr0, #HIr1, #HIbP, #HIrP0, #HIrP1⟩, HaB, ⟨HoS0, HoS1, HoR0, HoR1⟩, #HrBP, Hd⟩, Hcr⟩, ⟨Hs0, Hs1, Hr0, Hr1⟩, #Hlev⟩
  imod (Rounds.cell_open ER (sched m) (g := sendCell c 0) (Set.mem_univ (K (sendCell c 0)))) $$ [HoS0 Hs0] with HS0
  · isplitr; · iexact HIs0
    isplitl [HoS0]; · iexact HoS0
    iexact Hs0
  imod (Rounds.cell_open ER (sched m) (g := sendCell c 1) (Set.mem_univ (K (sendCell c 1)))) $$ [HoS1 Hs1] with HS1
  · isplitr; · iexact HIs1
    isplitl [HoS1]; · iexact HoS1
    iexact Hs1
  imod (Rounds.cell_open ER (sched m) (g := recvCell c 0) (Set.mem_univ (K (recvCell c 0)))) $$ [HoR0 Hr0] with HR0
  · isplitr; · iexact HIr0
    isplitl [HoR0]; · iexact HoR0
    iexact Hr0
  imod (Rounds.cell_open ER (sched m) (g := recvCell c 1) (Set.mem_univ (K (recvCell c 1)))) $$ [HoR1 Hr1] with HR1
  · isplitr; · iexact HIr1
    isplitl [HoR1]; · iexact HoR1
    iexact Hr1
  imodintro
  unfold entering
  isplitr [Hcr]
  · iexists K; unfold opened invs
    isplitr
    · isplitr; · iexact HIb
      isplitr; · iexact HIs0
      isplitr; · iexact HIs1
      isplitr; · iexact HIr0
      isplitr; · iexact HIr1
      isplitr; · iexact HIbP
      isplitr; · iexact HIrP0
      iexact HIrP1
    isplitl [HaB]; · iexact HaB
    isplitl [HS0 HS1 HR0 HR1]
    · isplitl [HS0]; · iexact HS0
      isplitl [HS1]; · iexact HS1
      isplitl [HR0]; · iexact HR0
      iexact HR1
    isplitr; · iexact HrBP
    iexact Hd
  isplitl [Hcr]; · iexact Hcr
  iexact Hlev

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Everything owed lies above the staging cells. -/
theorem owed_above (c : Dev nD) (t : Fin (cfg0.N + 1)) (g : GSem nD τ sig) (i : Unit) (h : 0 < (dat m c).owed t g i) :
    i ∈ L g ∧ 0 < lv g i := by
  have e : (dat m c).owed t = if t.val = 0 then O₀ c else 0 := rfl
  rw [e] at h
  split at h
  · rcases O₀_pos h with ⟨k, rfl⟩ | rfl
    · exact ⟨mem_L _ _ _, by rw [lv_recv]; decide⟩
    · exact ⟨mem_L _ _ _, Nat.one_pos⟩
  · exact absurd h (Nat.lt_irrefl 0)

theorem stage_level (c : Dev nD) (w : Fin 4) (s : Fin (win0 w).nbuf) : lv ((c : Thread nD τ), .dma ((win0 w).sem s)) () ≤ 0 := by
  show (if (win0 w).sem s = recvS 0 ∨ (win0 w).sem s = recvS 1 then 2 else 0) ≤ 0
  revert w s; decide

theorem enter (c : Dev nD) : iprop(Pipeline.scopedRest spec0 c ∗ (∃ r, prngReg c r) ∗ StableHlo.held (c.tc : Thread nD τ) ∅ (V₁ m c) ∗ entering m c)
    ⊢ ((dat m c).Φ 0 : sProp 𝕄) := by
  rw [show (dat m c).Φ 0 = before m c from rfl, scopedRest0_eq]
  unfold before scratch
  iintro ⟨Hs, Hp, -, He⟩
  isplitl [He]; · iexact He
  isplitl [Hs]; · iexact Hs
  iexact Hp

theorem leave (c : Dev nD) : ((dat m c).Φ (Fin.last cfg0.N) : sProp 𝕄)
    ⊢ iprop(Pipeline.scopedRest spec0 c ∗ (∃ r, prngReg c r) ∗ StableHlo.held (c.tc : Thread nD τ) ∅ (V₂ m c) ∗ Pipeline.ownSems0 osem c ∗ semVal (barCell c) 0) := by
  rw [show (dat m c).Φ (Fin.last cfg0.N) = behind c from rfl, scopedRest0_eq, ownSems_eq]
  unfold behind scratch StableHlo.held
  rw [BI.bigSep_empty]
  iintro ⟨⟨HzB, Hz⟩, Hs, Hp⟩
  isplitl [Hs]; · iexact Hs
  isplitl [Hp]; · iexact Hp
  isplitr; · iempintro
  isplitl [Hz]; · iexact Hz
  iexact HzB

theorem arr_first (c : Dev nD) (w : Fin cfg0.W) : (dat m c).arrAt w 0 = V₁ m c (Proc.devRef .tc (Pipeline.arrRef spec0 w)) := rfl

theorem arr_last (c : Dev nD) : ∀ w : Fin 4, (dat m c).arrAt w cfg0.N = V₂ m c (Proc.devRef .tc (Pipeline.arrRef spec0 w))
  | 0 => ((dat m c).arrAt_in 0 rfl _).trans (V₂_else m c (Proc.devRef .tc main_arg0) (by decide)).symm
  | 1 => ((dat m c).arrAt_in 1 rfl _).trans (V₂_else m c (Proc.devRef .tc main_v1) (by decide)).symm
  | 2 => ((dat m c).arrAt_in 2 rfl _).trans (V₂_else m c (Proc.devRef .tc main_v2) (by decide)).symm
  | 3 => (final_out m c).trans (V₂_out m c).symm

theorem rest_same (c : Dev nD) : ∀ b ∈ (bufs \ arrs) \ ∅, V₂ m c b = V₁ m c b := fun b hb =>
  V₂_else m c b fun h => (by decide : Proc.devRef .tc main_v3 ∉ (bufs \ arrs : Finset (DevRef τ sig))) (h ▸ (Finset.mem_sdiff.mp hb).1)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (bufs \ arrs) (Finset.empty_subset _) kitP rfl (fun c => (body_obligation m c).loose)
    (fun _ => 0) O₀ (fun c => (zero_add _).symm) (fun c => owed_last m c) (fun _ => rfl) (fun c w => share_full m c w)
    (V₁ m) (V₂ m) (rest_same m)
    (kept m) (fun c => semVal (barCell c) 0) (entering m) (fun c => semVal (barCell c) 0) (open_cells m) (enter m) (leave m)
    (fun c => by iintro H; imodintro; iexact H)
    (fun _ => 0)
    ⟨fun c w s => mem_L c _ _, fun c w s => stage_level c w s, fun c t g i h => owed_above m c t g i h⟩
    (fun _ => iprop(emp))
    (fun c w => arr_first m c w) (fun c w => arr_last m c w)

theorem ops_sub : ∀ op ∈ (hostOps0 : List (HloOp τ sig (Elt F))), op.bufs ⊆ bufs :=
  List.forall_iff_forall_mem.mp
    ⟨show ({Proc.devRef .tc main_arg1, Proc.devRef .tc main_v1} : Finset (DevRef τ sig)) ⊆ bufs by decide,
      show ({Proc.devRef .tc main_arg2, Proc.devRef .tc main_v2} : Finset (DevRef τ sig)) ⊆ bufs by decide⟩

def seg0 : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (R m)

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

end Cert.KernelIdeal.Norm

end
-- ==== Proof.Launch.lean ====
/-
The launch: every cell's invariant is allocated before the devices start, the four scoped cells of each device
dormant; the rights and the credit are dealt out; and the run's result follows.
-/
module

public import proofs.«01_k».proof.Proof.Run

@[expose] public section

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, as sets -/

/-- The cell of semaphore `f k` on device `c`, over all pairs. -/
def cellsOf {n : ℕ} (f : Fin n → SemLoc sig) (hf : Function.Injective f) : Dev nD × Fin n ↪ GSem nD τ sig :=
  ⟨fun ck => ((ck.1 : Thread nD τ), f ck.2), fun _ _ h =>
    Prod.ext (congrArg (fun g : GSem nD τ sig => g.1.1) h) (hf (congrArg Prod.snd h))⟩

abbrev bsem : Fin 1 → SemLoc sig := fun _ => .reg barS
/-- All five of a device's cells, in the order of `duties`. -/
abbrev allsem : Fin 5 → SemLoc sig := fun | 0 => .reg barS | 1 => .dma (recvS 0) | 2 => .dma (recvS 1) | 3 => .dma (sendS 0) | 4 => .dma (sendS 1)

abbrev barCells : Finset (GSem nD τ sig) := Finset.univ.map (cellsOf bsem (by decide))
abbrev scopedCells : Finset (GSem nD τ sig) := Finset.univ.map (cellsOf osem (by decide))
abbrev allCells : Dev nD × Fin 5 ↪ GSem nD τ sig := cellsOf allsem (by decide)
/-- One duty token a cell, all of the first round. -/
def tokOf : Dev nD × Fin 5 ↪ GSem nD τ sig × ℕ × Unit :=
  ⟨fun ck => (allCells ck, 0, ()), fun _ _ h => allCells.injective (congrArg Prod.fst h)⟩
def dealt : Finset (GSem nD τ sig × ℕ × Unit) := Finset.univ.map tokOf

theorem cells_apart : Disjoint barCells scopedCells := by
  rw [Finset.disjoint_left]
  rintro g h₁ h₂
  obtain ⟨c, -, rfl⟩ := Finset.mem_map.mp h₁
  obtain ⟨ck, -, h⟩ := Finset.mem_map.mp h₂
  exact (by decide : ∀ k : Fin 4, osem k ≠ .reg barS) ck.2 (congrArg Prod.snd h)

theorem bar_mem (c : Dev nD) : barCell c ∈ barCells ∪ scopedCells :=
  Finset.mem_union_left _ (Finset.mem_map_of_mem (cellsOf bsem (by decide)) (Finset.mem_univ (c, 0)))
theorem scoped_mem (c : Dev nD) (k : Fin 4) : ((c : Thread nD τ), osem k) ∈ barCells ∪ scopedCells :=
  Finset.mem_union_right _ (Finset.mem_map_of_mem (cellsOf osem (by decide)) (Finset.mem_univ (c, k)))

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_one (Φ : Fin 1 → sProp 𝕄) : bigSep Finset.univ Φ = Φ 0 :=
  bigSep_univ_eq_bigSepL [0] (by decide) (by decide) Φ

/-! ## From the launch's resources to each device's ghost state -/

/-- What every device may consult: the invariants under one choice of names, and that every barrier is at its first round. -/
def records (κ : GSem nD τ sig → ℕ) : sProp 𝕄 :=
  iprop((bigSep (barCells ∪ scopedCells) fun g => cellInv ER (sched m) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ barCells ∪ scopedCells) :
    (bigSep (barCells ∪ scopedCells) fun g => (cellInv ER (sched m) (κ g) g : sProp 𝕄)) ⊢ cellInv ER (sched m) (κ g) g :=
  bigSep_elim hg
theorem reached_at (c : Dev nD) : (bigSep barCells fun g => (reached ER g 0 : sProp 𝕄)) ⊢ reached ER (barCell c) 0 :=
  bigSep_elim (Finset.mem_map_of_mem (cellsOf bsem (by decide)) (Finset.mem_univ (c, 0)))

/-- What is device `c`'s alone: its place at its barrier, the rights to open its scoped cells, the duties it makes. -/
def own1 (c : Dev nD) : sProp 𝕄 :=
  iprop(atPos ER (barCell c) 0 ∅ 0
    ∗ (openTok ER (sendCell c 0) ∗ openTok ER (sendCell c 1) ∗ openTok ER (recvCell c 0) ∗ openTok ER (recvCell c 1)) ∗ duties c)

theorem ghost_made (κ : GSem nD τ sig → ℕ) (c : Dev nD) : iprop(records m κ ∗ own1 c) ⊢ iprop(∃ K, ghost m K c) := by
  unfold records own1 ghost invs
  iintro ⟨⟨#HI, #HR⟩, HaB, Hop, Hd⟩
  iexists κ
  isplitr
  · isplitr; · iapply (inv_at m κ (bar_mem c)); iexact HI
    isplitr; · iapply (inv_at m κ (scoped_mem c 0)); iexact HI
    isplitr; · iapply (inv_at m κ (scoped_mem c 1)); iexact HI
    isplitr; · iapply (inv_at m κ (scoped_mem c 2)); iexact HI
    isplitr; · iapply (inv_at m κ (scoped_mem c 3)); iexact HI
    isplitr; · iapply (inv_at m κ (bar_mem (peer c))); iexact HI
    isplitr; · iapply (inv_at m κ (scoped_mem (peer c) 2)); iexact HI
    iapply (inv_at m κ (scoped_mem (peer c) 3)); iexact HI
  isplitl [HaB]; · iexact HaB
  isplitl [Hop]; · iexact Hop
  isplitr; · iapply (reached_at (F := F) (peer c)); iexact HR
  iexact Hd

/-- The tokens dealt cell by cell are the duties device by device: the partner's barrier and receive tokens are exchanged. -/
theorem duties_dealt : bigSep dealt (fun x => (dutyTok ER x.1 x.2.1 x.2.2 : sProp 𝕄)) ⊢ bigSep Finset.univ fun c : Dev nD => duties c := by
  have by_device : bigSep dealt (fun x => (dutyTok ER x.1 x.2.1 x.2.2 : sProp 𝕄)) = bigSep Finset.univ fun c : Dev nD =>
      iprop(dutyTok ER (barCell c) 0 () ∗ dutyTok ER (recvCell c 0) 0 () ∗ dutyTok ER (recvCell c 1) 0 ()
        ∗ dutyTok ER (sendCell c 0) 0 () ∗ dutyTok ER (sendCell c 1) 0 ()) := by
    unfold dealt
    rw [bigSep_map, bigSep_univ_prod]
    exact congrArg _ (funext fun c => bigSep_five _)
  rw [by_device]
  unfold duties
  simp only [bigSep_sep']
  rw [bigSep_univ_equiv swap (fun c : Dev nD => (dutyTok ER (barCell c) 0 () : sProp 𝕄)),
    bigSep_univ_equiv swap (fun c : Dev nD => (dutyTok ER (recvCell c 0) 0 () : sProp 𝕄)),
    bigSep_univ_equiv swap (fun c : Dev nD => (dutyTok ER (recvCell c 1) 0 () : sProp 𝕄))]
  exact BI.Entails.refl _

/-! ## The credit -/

theorem peer_eq {c d : Dev nD} : peer d = c ↔ d = peer c :=
  ⟨fun h => by rw [← h, peer_peer], fun h => by rw [h, peer_peer]⟩

/-- One summand of a debt, read at a cell of device `c`. -/
theorem tally_at (d c : Dev nD) (s s' : SemLoc sig) (n : ℕ) :
    (tallyAt ((peer d : Thread nD τ), s) () n : CellTallies nD τ sig Unit) ((c : Thread nD τ), s') () = if s = s' ∧ d = peer c then n else 0 := by
  rw [tallyAt_apply]
  refine if_congr ⟨fun h => ?_, fun h => ?_⟩ rfl rfl
  · exact ⟨(congrArg Prod.snd h.1).symm, peer_eq.mp (congrArg (fun g : GSem nD τ sig => g.1.1) h.1).symm⟩
  · obtain ⟨rfl, rfl⟩ := h
    exact ⟨by rw [peer_peer], rfl⟩

/-- What all devices owe to a cell of `c` is what `c`'s partner owes it. -/
theorem owed_at (c : Dev nD) (s : SemLoc sig) (n : ℕ)
    (h : ∀ d, O₀ d ((c : Thread nD τ), s) () = if d = peer c then n else 0) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem O₀_at (d c : Dev nD) (s : SemLoc sig) : O₀ d ((c : Thread nD τ), s) () =
    ((if SemLoc.dma (recvS 1) = s ∧ d = peer c then N else 0) + (if SemLoc.dma (recvS 0) = s ∧ d = peer c then N else 0))
      + (if SemLoc.reg barS = s ∧ d = peer c then 1 else 0) := by
  unfold O₀ O₂
  rw [Pi.add_apply, Finsupp.add_apply, Pi.add_apply, Finsupp.add_apply, tally_at, tally_at, tally_at]

theorem owed_bar (c : Dev nD) :
    tallyOn (barCell c) (launchCredit (Pipeline.owing O₀) 0 (barCell c)) = (tallyAt (barCell c) () 1 : CellTallies nD τ sig Unit) :=
  owed_at c (.reg barS) 1 fun d => by simp [O₀_at]
theorem owed_recv (c : Dev nD) (h : Fin 2) :
    tallyOn (recvCell c h) (launchCredit (Pipeline.owing O₀) 0 (recvCell c h)) = (tallyAt (recvCell c h) () N : CellTallies nD τ sig Unit) :=
  owed_at c (.dma (recvS h)) N fun d => by
    rw [O₀_at]
    match h with
    | 0 => simp [(by decide : recvS 1 ≠ recvS 0)]
    | 1 => simp [(by decide : recvS 0 ≠ recvS 1)]

theorem credit_made (c : Dev nD) : (Pipeline.launchCred O₀ c : sProp 𝕄) ⊢ credit c := by
  unfold Pipeline.launchCred credit
  rw [bigSep_univ_at _ (SemLoc.reg barS), owed_bar]
  refine sep_mono_right ?_
  rw [BI.bigSep_erase (i := SemLoc.dma (recvS 0)) (by decide), owed_recv]
  refine sep_mono_right ?_
  rw [← owed_recv]
  exact bigSep_elim (by decide)

/-! ## The start -/

/-- The two ends of the program: every buffer with its contents, and what else is held there. -/
abbrev atStart (c : Dev nD) : sProp 𝕄 := iprop(StableHlo.held (c : Thread nD τ) bufs (V₀ m c) ∗ R m c)
abbrev atEnd (c : Dev nD) : sProp 𝕄 := iprop(StableHlo.held (c : Thread nD τ) bufs (V₂ m c) ∗ semVal (barCell c) 0)

/-- The protocol's ghost resource, all of it handed in by device 0. -/
def fund : sProp 𝕄 := BI.own (ER (launchOf barCells scopedCells dealt))
def G (c : Dev nD) : sProp 𝕄 := if c = 0 then fund else iprop(emp)
theorem G_all : bigSep Finset.univ (G : Dev nD → sProp 𝕄) = fund := by
  rw [bigSep_univ_at _ 0, show (G 0 : sProp 𝕄) = fund from if_pos rfl,
    bigSep_congr (s := Finset.univ.erase (0 : Dev nD)) (Φ := G) (Ψ := fun _ => (BI.emp : sProp 𝕄)) fun c hc => if_neg (Finset.ne_of_mem_erase hc),
    BI.bigSep_emp_const]
  exact BI.equiv_iff.mp BI.sep_emp

/-- The user resource of the launch: the pipeline's at its staging cells, and the protocol's. -/
def u₀ : UU :=
  (initOf (Pipeline.cells (Pipeline.pin (pcfgs (F := F)) adm) cellOf_inj) (Pipeline.launchToks (Pipeline.pin (pcfgs (F := F)) adm) cellOf_inj),
    launchOf barCells scopedCells dealt)

/-- What of a device's launch holdings is not the protocol's. -/
def carried (c : Dev nD) : sProp 𝕄 :=
  iprop(StableHlo.held (c : Thread nD τ) bufs (V₀ m c) ∗ owes (c : Thread nD τ) (O₀ c) ∅ ∗ credit c ∗ prngReg c (ρ c))

theorem start_made (κ : GSem nD τ sig → ℕ) (c : Dev nD) : iprop(records m κ ∗ (own1 c ∗ carried m ρ c)) ⊢ atStart m c := by
  unfold carried atStart R kept
  iintro ⟨#HR, Hl, Hh, HO, Hcr, Hp⟩
  isplitl [Hh]; · iexact Hh
  isplitr [HO]
  · isplitr [Hp]
    · isplitl [Hl]
      · iapply (ghost_made m κ c)
        isplitr; · iexact HR
        iexact Hl
      iexact Hcr
    iexists (ρ c); iexact Hp
  iexists ∅; iexact HO

theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(carried m ρ c ∗ (semVal (barCell c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold carried
  iintro ⟨Hh, Hs, HO, Hcr, Hp, HG⟩
  isplitr [Hs HG]
  · isplitl [Hh]; · iexact Hh
    isplitl [HO]; · iexact HO
    isplitl [Hcr]; · iapply (credit_made (F := F) c); iexact Hcr
    iexact Hp
  isplitl [Hs]; · iexact Hs
  iexact HG

/-- A separating product over the barrier cells, device by device, -/
theorem over_bars (Φ : GSem nD τ sig → sProp 𝕄) : bigSep barCells Φ = bigSep Finset.univ fun c : Dev nD => Φ (barCell c) := by
  rw [bigSep_map, bigSep_univ_prod]
  exact congrArg _ (funext fun c => bigSep_one _)
/-- and over the scoped cells. -/
theorem over_scoped (Φ : GSem nD τ sig → sProp 𝕄) : bigSep scopedCells Φ = bigSep Finset.univ fun c : Dev nD =>
    iprop(Φ (sendCell c 0) ∗ Φ (sendCell c 1) ∗ Φ (recvCell c 0) ∗ Φ (recvCell c 1)) := by
  rw [bigSep_map, bigSep_univ_prod]
  exact congrArg _ (funext fun c => bigSep_W0 _)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (atStart m) : sProp 𝕄) := by
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(carried m ρ c ∗ (semVal (barCell c) 0 ∗ G c)) : sProp 𝕄) from bigSep_mono fun c _ => sorted m ρ c) $$ H
  ihave H2 := (Entails.of_eq (bigSep_sep' _ _ _)) $$ H1; icases H2 with ⟨Hc, H3⟩
  ihave H4 := (Entails.of_eq (bigSep_sep' _ _ _)) $$ H3; icases H4 with ⟨Hv, HG⟩
  ihave Hu := (show bigSep Finset.univ (G : Dev nD → sProp 𝕄) ⊢ BI.own (ER (launchOf barCells scopedCells dealt)) from Entails.of_eq G_all) $$ HG
  imod (Rounds.fund_launch ER (sched m) cells_apart (fun g _ h => h) dealt) $$ [Hv Hu] with ⟨%κ, -, #HI, #Hr, Hat, Hopen, Htok⟩
  · isplitl [Hv]
    · iapply (Entails.of_eq (over_bars (F := F) fun g => semVal g 0).symm); iexact Hv
    iexact Hu
  imodintro
  iapply (bigSep_with_persistent (R := records m κ) (Φ := fun c => iprop(own1 c ∗ carried m ρ c)) fun c _ => start_made m ρ κ c)
  isplitr
  · unfold records
    isplitr; · iexact HI
    iexact Hr
  iapply (Entails.of_eq (bigSep_sep' _ _ _).symm)
  isplitr [Hc]
  · unfold own1
    iapply (Entails.of_eq (bigSep_sep' _ _ _).symm)
    isplitl [Hat]; · iapply (Entails.of_eq (over_bars (F := F) fun g => atPos ER g 0 ∅ 0)); iexact Hat
    iapply (Entails.of_eq (bigSep_sep' _ _ _).symm)
    isplitl [Hopen]; · iapply (Entails.of_eq (over_scoped (F := F) fun g => openTok ER g)); iexact Hopen
    iapply (duties_dealt (F := F)); iexact Htok
  iexact Hc

/-! ## The region's two sides -/

theorem region_entered (c : Dev nD) : iprop(StableHlo.held (c : Thread nD τ) bufs (V₁ m c) ∗ R m c) ⊢ (reg0 m).pre c := by
  show _ ⊢ iprop(StableHlo.held (c : Thread nD τ) arrs (V₁ m c) ∗ (∃ r, prngReg c r)
    ∗ (StableHlo.held (c : Thread nD τ) (bufs \ arrs) (V₁ m c) ∗ emp) ∗ kept m c ∗ ∃ Wd, owes (c : Thread nD τ) (0 + O₀ c) Wd)
  rw [StableHlo.held_sub_split (c : Thread nD τ) arrs_sub, zero_add]
  unfold R
  iintro ⟨⟨Ha, Hb⟩, ⟨Hk, Hp⟩, HO⟩
  isplitl [Ha]; · iexact Ha
  isplitl [Hp]; · iexact Hp
  isplitl [Hb]
  · isplitl [Hb]; · iexact Hb
    iempintro
  isplitl [Hk]; · iexact Hk
  iexact HO

theorem region_left (c : Dev nD) : (reg0 m).post c ⊢ iprop(atEnd m c ∗ ∃ W, owes (c : Thread nD τ) (0 : CellTallies nD τ sig Unit) W) := by
  show iprop(StableHlo.held (c : Thread nD τ) arrs (V₂ m c) ∗ (∃ r, prngReg c r)
    ∗ (StableHlo.held (c : Thread nD τ) (bufs \ arrs) (V₂ m c) ∗ emp) ∗ semVal (barCell c) 0 ∗ ∃ Wd, owes (c : Thread nD τ) (0 : CellTallies nD τ sig Unit) Wd) ⊢ _
  unfold atEnd
  rw [StableHlo.held_sub_split (c : Thread nD τ) arrs_sub]
  iintro ⟨Ha, -, ⟨Hb, -⟩, Hz, HO⟩
  isplitr [HO]
  · isplitr [Hz]
    · isplitl [Ha]; · iexact Ha
      iexact Hb
    iexact Hz
  iexact HO

/-! ## The run -/

/-- The barrier is the one semaphore no region's scope holds. -/
theorem unscoped_only : ∀ sm : SemLoc sig, sm.isScoped .tc = false → sm = .reg barS := by decide

/-- What one device's final memory is read for. -/
def Ends (c : Dev nD) (s : MemSt nD τ sig (Elt F)) : Prop :=
  (s.mem ((c : Thread nD τ).loc main_v3) = outOf m c ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)) ∧ s.sem (barCell c) = 0

/-- The buffers one by one. -/
theorem held_list (c : Dev nD) (W : Valuation τ sig (Elt F)) : (StableHlo.held (c : Thread nD τ) bufs W : sProp 𝕄) =
    iprop(((Memref.whole main_arg0).view.loc (c : Thread nD τ) ↦{fullShare} W (Proc.devRef .tc main_arg0))
      ∗ ((Memref.whole main_arg1).view.loc (c : Thread nD τ) ↦{fullShare} W (Proc.devRef .tc main_arg1))
      ∗ ((Memref.whole main_arg2).view.loc (c : Thread nD τ) ↦{fullShare} W (Proc.devRef .tc main_arg2))
      ∗ ((Memref.whole main_v1).view.loc (c : Thread nD τ) ↦{fullShare} W (Proc.devRef .tc main_v1))
      ∗ ((Memref.whole main_v2).view.loc (c : Thread nD τ) ↦{fullShare} W (Proc.devRef .tc main_v2))
      ∗ ((Memref.whole main_v3).view.loc (c : Thread nD τ) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem ends_read (c : Dev nD) (s' : Phys nD τ sig (Elt F)) : iprop(atEnd m c ∗ SI s') ⊢ (|={Set.univ}=> iprop(⌜Ends m c s'.mem⌝ ∗ SI s') : sProp 𝕄) := by
  unfold atEnd
  rw [held_list]
  iintro ⟨⟨⟨Hx, Hg, Hb, -, -, Ho⟩, Hz⟩, HSI⟩
  icombine HSI Hx gives %hx
  icombine HSI Hg gives %hg
  icombine HSI Hb gives %hb
  icombine HSI Ho gives %ho
  icombine HSI Hz gives %hz
  imodintro
  isplitr
  · ipureintro
    exact ⟨⟨(Buf.eq_of_forall_mem_univ ho).trans (V₂_out m c),
      ((Buf.eq_of_forall_mem_univ hx).trans (V₂_else m c (Proc.devRef .tc main_arg0) (by decide))).trans (V_main_arg0 m c),
      ((Buf.eq_of_forall_mem_univ hg).trans (V₂_else m c (Proc.devRef .tc main_arg1) (by decide))).trans (V_main_arg1 m c),
      ((Buf.eq_of_forall_mem_univ hb).trans (V₂_else m c (Proc.devRef .tc main_arg2) (by decide))).trans (V_main_arg2 m c)⟩, by simpa using hz⟩
  iexact HSI

set_option backward.isDefEq.respectTransparency.types false in
/-- From any memory whose counters are zero, every fair execution of the program ends, with the result `outOf` on every device, the arguments
    unchanged, and every counter at zero. -/
theorem run_main : θ_run defs (onTc (τ := τ) (main (F := F))) ⟨m, fun _ => 0, ρ⟩
    (fun r => (∀ c : Dev nD, r.2.mem ((c : Thread nD τ).loc main_v3) = outOf m c ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; unfold fund; iexact HX)
    (T₀ := atStart m) (Tₙ := atEnd m)
    (hch := ⟨fun c => .rfl, fun c => region_entered m c, fun c => region_left m c⟩)
    (hinit := init m ρ)
    (QY := Ends m)
    (hfin := ends_read m)
    (hQ := fun s h hs => ⟨fun c => (h c).1, sem_eq_zero hs fun c sm hsm => by
      obtain rfl := unscoped_only sm hsm
      exact (h c).2⟩)

end Cert.KernelIdeal.Norm

end
-- ==== Proof.Frames.lean ====
/-
The frame claims: the run of the idealized program, read off; the printed program is the same text, so its run is the
same; the reference is a list of host operations.
-/
module

public import proofs.«01_k».proof.Defs
public import proofs.«01_k».proof.Proof.Launch
public import proofs.«01_k».proof.Proof.Gen.Kernel.Launch
public import proofs.«01_k».proof.Proof.Gen.ReferenceIdeal.Run
public import proofs.«01_k».proof.Proof.Gen.Pre_x_finite_KernelIdeal
public import proofs.«01_k».proof.Proof.Gen.Pre_x_finite_ReferenceIdeal
public import Idealize.ShloMosaic.Lib.Claim
public import Idealize.ShloMosaic.Lib.StableHlo.RunHlo

@[expose] public section

set_option maxRecDepth 16384

noncomputable section

namespace Cert.Proof

open Idealize.ShloMosaic Idealize.ShloMosaic.TcCoe Idealize.SL.Sem

variable {F : FTy → Type} [FloatOps F]

/-- The two programs' kernels are one text. -/
theorem bodies_eq : Cert.Kernel.defs₀ (F := F) = Cert.KernelIdeal.defs₀ (F := F) := by
  refine congrArg Defs.onTc (funext fun l => ?_)
  fin_cases l
  funext ⟨t, s⟩
  rfl
theorem defs_eq : Cert.Kernel.defs (F := F) = Cert.KernelIdeal.defs (F := F) :=
  congrArg (Pipeline.defs Cert.KernelIdeal.pcfgs) bodies_eq

/-- The printed program's run, at the bits. -/
theorem frame_kernel : Cert.quiescent_Kernel := fun m g _ => by
  rw [defs_eq]
  exact (θ_run Cert.KernelIdeal.defs _ _).mono (fun r h => ⟨fun c => (h.1 c).2, h.2⟩) (Cert.KernelIdeal.Norm.run_main (F := Bits) m g)

theorem frame_ideal : Cert.quiescent_KernelIdeal := fun m g _ =>
  (θ_run Cert.KernelIdeal.defs _ _).mono (fun r h => ⟨fun c => (h.1 c).2, h.2⟩) (Cert.KernelIdeal.Norm.run_main (F := Ideal) m g)

theorem frame_ideal_finite : Cert.quiescent_KernelIdeal_pre_x_finite_KernelIdeal := fun m g _ => frame_ideal m g trivial

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_finite : Cert.quiescent_ReferenceIdeal_pre_x_finite_ReferenceIdeal := fun m g _ => frame_reference m g trivial

end Cert.Proof

end
-- ==== Proof.KernelValue.lean ====
/-
What the kernel leaves in its result, as an expression of the three argument blocks.
-/
module

public import proofs.«01_k».proof.Proof.Exchange
public import Idealize.ShloMosaic.Lib.Pointwise
public import Idealize.ShloMosaic.Lib.Claim
public import Idealize.ShloMosaic.Lib.Pipeline.ValueKit.Point

@[expose] public section

set_option maxRecDepth 16384

noncomputable section

namespace Cert.KernelIdeal.Norm

open Cert.KernelIdeal Cert.KernelIdeal.Gen
open Idealize.ShloMosaic Idealize.ShloMosaic.TcCoe Idealize.ShloMosaic.Tactic

/-- The length of a row, as the program's constant. -/
def width : EReal := Ideal.ofBits .f32 0x44800000#32
/-- The constant added to the variance. -/
def eps : EReal := Ideal.ofBits .f32 0x3727C5AC#32

/-- The first row of the statistics of 384 rows: their sums. -/
theorem sum_at (x : Vec Ideal S384x512 .f32) (r : Fin 384) :
    k0_pay1 x (ix2 0 r) = ∑ k : Fin 512, x (ix2 r k) := by
  pointwise [k0_pay1]

/-- The second row: the sums of their squares. -/
theorem sq_at (x : Vec Ideal S384x512 .f32) (r : Fin 384) :
    k0_pay1 x (ix2 1 r) = ∑ k : Fin 512, x (ix2 r k) * x (ix2 r k) := by
  pointwise [k0_pay1]

/-- A normalized element, from the row's two sums on either device. -/
theorem norm_at (a b : Vec Ideal S2x384 .f32) (x : Vec Ideal S384x512 .f32) (g e : Vec Ideal S1x512 .f32) (r : Fin 384) (l : Fin 512) :
    k0_pay3 a b x g e (ix2 r l)
      = (x (ix2 r l) - Ideal.div (a (ix2 0 r) + b (ix2 0 r)) width)
          * Ideal.rsqrt (Ideal.div (a (ix2 1 r) + b (ix2 1 r)) width
              - Ideal.div (a (ix2 0 r) + b (ix2 0 r)) width * Ideal.div (a (ix2 0 r) + b (ix2 0 r)) width + eps)
          * g (ix2 0 l) + e (ix2 0 l) := by
  unfold width eps
  pointwise [k0_pay3]

variable (m : (ℓ : Loc nD τ sig) → Buf (Elt Ideal) ℓ)

/-- Device `c`'s blocks of the matrix, the scale and the shift, as launched. -/
def xIn (c : Dev nD) : FVec Ideal S768x512 .f32 := m ((c : Thread nD τ).loc main_arg0)
def gIn (c : Dev nD) : FVec Ideal S512 .f32 := m ((c : Thread nD τ).loc main_arg1)
def bIn (c : Dev nD) : FVec Ideal S512 .f32 := m ((c : Thread nD τ).loc main_arg2)

/-- The staged block is the argument itself. -/
theorem xs_at (c : Dev nD) (i : S768x512.Idx) : xs m c i = xIn m c i := by
  obtain ⟨a, b, rfl⟩ : ∃ (a : Fin 768) (b : Fin 512), i = ix2 a b := ⟨i 0, i 1, eq_ix2 i⟩
  have e : ∀ d, win0_0.index t0_0 d = 0 := by decide
  unfold xs xIn
  blk_ext! [iblk, V_main_arg0, e]

theorem gs_at (c : Dev nD) (k : Fin 512) : gs m c (ix2 0 k) = gIn m c (ix1 k) := by
  have e : ∀ d, win0_1.index t0_0 d = 0 := by decide
  unfold gs gIn
  blk_ext! [iblk, e]

theorem bs_at (c : Dev nD) (k : Fin 512) : bs m c (ix2 0 k) = bIn m c (ix1 k) := by
  have e : ∀ d, win0_2.index t0_0 d = 0 := by decide
  unfold bs bIn
  blk_ext! [iblk, e]

/-- Row `r` of half `h` is row `384 h + r` of the block. -/
theorem xh_at (c : Dev nD) (h : Fin 2) (r : Fin 384) (k : Fin 512) :
    xh m c h (ix2 r k) = xIn m c (ix2 ⟨384 * h.val + r.val, by omega⟩ k) := by
  refine Eq.trans ?_ (xs_at m c _)
  refine congrArg (xs m c) (funext fun d => Fin.ext ?_)
  match d with
  | ⟨0, _⟩ => show 384 * h.val + 1 * r.val = 384 * h.val + r.val; omega
  | ⟨1, _⟩ => show 0 + 1 * k.val = k.val; omega

theorem gv_at (c : Dev nD) (k : Fin 512) :
    gv m c (ix2 0 k) = gIn m c (ix1 k) := by
  refine Eq.trans ?_ (gs_at m c _)
  refine congrArg (gs m c) (funext fun d => Fin.ext ?_)
  match d with
  | ⟨0, _⟩ => rfl
  | ⟨1, _⟩ => show 0 + 1 * k.val = k.val; omega

theorem bv_at (c : Dev nD) (k : Fin 512) :
    bv m c (ix2 0 k) = bIn m c (ix1 k) := by
  refine Eq.trans ?_ (bs_at m c _)
  refine congrArg (bs m c) (funext fun d => Fin.ext ?_)
  match d with
  | ⟨0, _⟩ => rfl
  | ⟨1, _⟩ => show 0 + 1 * k.val = k.val; omega

/-- The sum of row `i` over both devices of the pair. -/
def total (c : Dev nD) (i : Fin 768) : EReal :=
  (∑ k : Fin 512, xIn m c (ix2 i k)) + ∑ k : Fin 512, xIn m (peer c) (ix2 i k)
/-- The sum of its squares. -/
def totalSq (c : Dev nD) (i : Fin 768) : EReal :=
  (∑ k : Fin 512, xIn m c (ix2 i k) * xIn m c (ix2 i k))
    + ∑ k : Fin 512, xIn m (peer c) (ix2 i k) * xIn m (peer c) (ix2 i k)

/-- Device `c`'s result at row `i`, column `l` of its block. -/
theorem outOf_at (c : Dev nD) (i : Fin 768) (l : Fin 512) :
    outOf m c (ix2 i l)
      = (xIn m c (ix2 i l) - Ideal.div (total m c i) width)
          * Ideal.rsqrt (Ideal.div (totalSq m c i) width
              - Ideal.div (total m c i) width * Ideal.div (total m c i) width + eps)
          * gIn m c (ix1 l) + bIn m c (ix1 l) := by
  have hi : 384 * (i.val / 384) + i.val % 384 = i.val := Nat.div_add_mod _ _
  let h : Fin 2 := ⟨i.val / 384, by omega⟩
  let r : Fin 384 := ⟨i.val % 384, by omega⟩
  have hx : ∀ (d : Dev nD) (k : Fin 512), xh m d h (ix2 r k) = xIn m d (ix2 i k) := fun d k => by
    rw [xh_at]
    exact congrArg (fun a : Fin 768 => xIn m d (ix2 a k)) (Fin.ext hi)
  unfold outOf
  rw [joinRows_at _ h (ix2 r l) (ix2 i l) hi.symm rfl]
  unfold normed sums total totalSq
  rw [norm_at]
  simp only [sum_at, sq_at, hx, gv_at, bv_at]

end Cert.KernelIdeal.Norm
-- ==== Proof.RefValue.lean ====
/-
The reference's result at one place, as an expression of its three arguments.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Norm

open Cert.ReferenceIdeal Cert.ReferenceIdeal.Gen
open Idealize.ShloMosaic

variable (X : FVec Ideal S1536x1024 .f32) (G B : FVec Ideal S1024 .f32)

/-- The reference's mean of every row. -/
def means : FVec Ideal S1536x1 .f32 :=
  Host.divf (broadcastInDim S1536x1 ![0] bcast_S1536_S1536x1_0 (Host.reduceAdd X (constant S_ .f32 0x00000000#32) reducesTo_S1536x1024_S1536_d1 h_S_))
    (broadcastInDim S1536x1 ![] bcast_S_S1536x1 (constant S_ .f32 0x44800000#32))

/-- Every element less its row's mean. -/
def centred : FVec Ideal S1536x1024 .f32 :=
  subf X (broadcastInDim S1536x1024 ![0, 1] bcast_S1536x1_S1536x1024_0_1 (means X))

/-- The number of columns less no degree of freedom. -/
def count : FVec Ideal S_ .f32 := subf (constant S_ .f32 0x44800000#32) (sitofp .f32 (constantI S_ 32 0#32))

/-- The variance of every row. -/
def variances : FVec Ideal S1536x1 .f32 :=
  select (broadcastInDim S1536x1 ![] bcast_S_S1536x1 (cmpf .ogt count (constant S_ .f32 0x00000000#32)))
    (Host.divf (broadcastInDim S1536x1 ![0] bcast_S1536_S1536x1_0
        (Host.reduceAdd (mulf (centred X) (centred X)) (constant S_ .f32 0x00000000#32) reducesTo_S1536x1024_S1536_d1 h_S_))
      (broadcastInDim S1536x1 ![] bcast_S_S1536x1 count))
    (broadcastInDim S1536x1 ![] bcast_S_S1536x1 (id (constant S_ .f32 0x7FC00000#32)))

/-- The reference's whole result. -/
def result : FVec Ideal S1536x1024 .f32 :=
  addf (Host.divf
      (mulf (broadcastInDim S1536x1024 ![0, 1] bcast_S1x1024_S1536x1024_0_1 (broadcastInDim S1x1024 ![1] bcast_S1024_S1x1024_1 G)) (centred X))
      (broadcastInDim S1536x1024 ![0, 1] bcast_S1536x1_S1536x1024_0_1
        (Host.sqrt (addf (variances X) (broadcastInDim S1536x1 ![] bcast_S_S1536x1 (constant S_ .f32 0x3727C5AC#32))))))
    (broadcastInDim S1536x1024 ![0, 1] bcast_S1x1024_S1536x1024_0_1 (broadcastInDim S1x1024 ![1] bcast_S1024_S1x1024_1 B))

/-- The number of columns, as the program's constant. -/
theorem width_eq : Ideal.ofBits .f32 0x44800000#32 = ((1024 : ℝ) : EReal) := by
  simp [Ideal.ofBits, Ideal.ieee, -EReal.coe_mul]; norm_num

/-- The constant added to the variance is a positive real. -/
theorem eps_eq : ∃ e : ℝ, 0 < e ∧ Ideal.ofBits .f32 0x3727C5AC#32 = (e : EReal) := by
  refine ⟨10995116 / 2 ^ 40, by positivity, ?_⟩
  simp [Ideal.ofBits, Ideal.ieee, -EReal.coe_mul]; norm_num

theorem means_at (p : Fin 1536) :
    means X (ix2 p 0) = Ideal.div (∑ k : Fin 1024, X (ix2 p k)) (Ideal.ofBits .f32 0x44800000#32) := by
  pointwise [means]

theorem centred_at (p : Fin 1536) (q : Fin 1024) : centred X (ix2 p q) = X (ix2 p q) - means X (ix2 p 0) := by
  pointwise [centred]

theorem variances_at (p : Fin 1536) :
    variances X (ix2 p 0)
      = Ideal.div (∑ k : Fin 1024, centred X (ix2 p k) * centred X (ix2 p k)) (Ideal.ofBits .f32 0x44800000#32) := by
  pointwise [variances, count]
  simp only [FloatOps.sitofp, width_eq]
  norm_num

theorem result_at (p : Fin 1536) (q : Fin 1024) :
    result X G B (ix2 p q)
      = Ideal.div (G (ix1 q) * centred X (ix2 p q)) (Ideal.sqrt (variances X (ix2 p 0) + Ideal.ofBits .f32 0x3727C5AC#32)) + B (ix1 q) := by
  pointwise [result]

end Cert.ReferenceIdeal.Norm
-- ==== Proof.Equation.lean ====
/-
The layer norm of one row of 1024 numbers, computed in two ways: from the mean of the squares less the square of the
mean, or from the mean of the squared distances to the mean.
-/
module

public import proofs.«01_k».proof.Proof.RefValue

@[expose] public section

noncomputable section

namespace Cert.Norm

open Idealize.ShloMosaic

/-- The two formulas for the variance of 1024 reals. -/
theorem variance_eq (y : Fin 1024 → ℝ) :
    (∑ k, y k * y k) / 1024 - (∑ k, y k) / 1024 * ((∑ k, y k) / 1024)
      = (∑ k, (y k - (∑ k, y k) / 1024) * (y k - (∑ k, y k) / 1024)) / 1024 := by
  generalize hs : ∑ k, y k = s
  have h : ∀ k, (y k - s / 1024) * (y k - s / 1024) = y k * y k - s / 512 * y k + s / 1024 * (s / 1024) := fun k => by ring
  simp only [h, Finset.sum_add_distrib, Finset.sum_sub_distrib, ← Finset.mul_sum, hs, Finset.sum_const, Finset.card_univ,
    Fintype.card_fin, nsmul_eq_mul]
  push_cast
  ring

theorem coe_sum (y : Fin 1024 → ℝ) : (∑ k, (y k : EReal)) = ((∑ k, y k : ℝ) : EReal) :=
  (map_sum (⟨⟨Real.toEReal, rfl⟩, EReal.coe_add⟩ : ℝ →+ EReal) y Finset.univ).symm

/-- A quotient by the row's length, of a real. -/
theorem div_width (x : ℝ) : Ideal.div (x : EReal) (Ideal.ofBits .f32 0x44800000#32) = ((x / 1024 : ℝ) : EReal) := by
  rw [Cert.ReferenceIdeal.Norm.width_eq, Ideal.div_coe (by norm_num), ← EReal.coe_mul, mul_one_div]

/-- The two ways of writing the normalized element agree where the row is real; the scale and the shift may be anything. -/
theorem norm_eq (y : Fin 1024 → EReal) (hy : ∀ k, ∃ r : ℝ, y k = r) (q : Fin 1024) (g b : EReal) :
    (y q - Ideal.div (∑ k, y k) (Ideal.ofBits .f32 0x44800000#32))
        * Ideal.rsqrt (Ideal.div (∑ k, y k * y k) (Ideal.ofBits .f32 0x44800000#32)
            - Ideal.div (∑ k, y k) (Ideal.ofBits .f32 0x44800000#32) * Ideal.div (∑ k, y k) (Ideal.ofBits .f32 0x44800000#32)
            + Ideal.ofBits .f32 0x3727C5AC#32)
        * g + b
      = Ideal.div (g * (y q - Ideal.div (∑ k, y k) (Ideal.ofBits .f32 0x44800000#32)))
          (Ideal.sqrt (Ideal.div (∑ k, (y k - Ideal.div (∑ k, y k) (Ideal.ofBits .f32 0x44800000#32))
              * (y k - Ideal.div (∑ k, y k) (Ideal.ofBits .f32 0x44800000#32))) (Ideal.ofBits .f32 0x44800000#32)
            + Ideal.ofBits .f32 0x3727C5AC#32)) + b := by
  choose r hr using hy
  obtain ⟨e, he, heq⟩ := Cert.ReferenceIdeal.Norm.eps_eq
  simp only [hr, coe_sum, div_width, ← EReal.coe_mul, ← EReal.coe_sub, ← EReal.coe_add, heq, variance_eq]
  have hv : 0 < (∑ k, (r k - (∑ k, r k) / 1024) * (r k - (∑ k, r k) / 1024)) / 1024 + e := by
    have : 0 ≤ ∑ k, (r k - (∑ k, r k) / 1024) * (r k - (∑ k, r k) / 1024) := Finset.sum_nonneg fun k _ => mul_self_nonneg _
    positivity
  generalize (∑ k, (r k - (∑ k, r k) / 1024) * (r k - (∑ k, r k) / 1024)) / 1024 + e = v at hv
  rw [Ideal.rsqrt_coe, Ideal.sqrt_coe, if_neg hv.le.not_gt, if_neg hv.ne', if_neg hv.le.not_gt,
    Ideal.div_coe (Real.sqrt_pos.mpr hv).ne', one_div, mul_comm g, mul_right_comm]

end Cert.Norm
-- ==== Proof.Algebraic.lean ====
/-
Over the extended reals, and for a matrix without infinities, the devices' results are the blocks of the reference's.
-/
module

public import proofs.«01_k».proof.Proof.Frames
public import proofs.«01_k».proof.Proof.KernelValue
public import proofs.«01_k».proof.Proof.Equation
public import Idealize.ShloMosaic.Lib.LayoutAt

@[expose] public section

set_option maxRecDepth 16384

noncomputable section

namespace Cert.Proof

open Idealize.ShloMosaic Idealize.ShloMosaic.TcCoe Idealize.SL.Sem
open Cert.KernelIdeal (nD)
open Cert.KernelIdeal.Norm (peer outOf xIn gIn bIn)

/-- An entry that the precondition admits is a real. -/
theorem real_of_finite (x : FVec Ideal Cert.KernelIdeal.S768x512 .f32) (g b : FVec Ideal Cert.KernelIdeal.S512 .f32)
    (h : Cert.Pre_x_finite_KernelIdeal.fn (F := Ideal) x g b = fun _ => 1#1) (i : Cert.KernelIdeal.S768x512.Idx) :
    ∃ r : ℝ, x i = r := by
  have h' := congrFun h i
  unfold Cert.Pre_x_finite_KernelIdeal.fn at h'
  pointwise at h'
  have top : Ideal.ofBits .f32 0x7F800000#32 = (⊤ : EReal) := by simp [Ideal.ofBits, Ideal.ieee]
  rw [top] at h'
  generalize x i = y at h' ⊢
  induction y using EReal.rec with
  | coe r => exact ⟨r, rfl⟩
  | bot => simp [FloatOps.absf] at h'
  | top => simp [FloatOps.absf] at h'

/-- Where row `i` and column `k` of device `c`'s block are in the whole matrix. -/
def row (c : Dev nD) (i : Fin 768) : Fin 1536 := ⟨768 * (c.val / 2) + i.val, by have : c.val < 4 := c.isLt; omega⟩
def col (c : Dev nD) (k : Fin 512) : Fin 1024 := ⟨512 * (c.val % 2) + k.val, by omega⟩

theorem row_peer (c : Dev nD) (i : Fin 768) : row (peer c) i = row c i := by
  have : c.val < 4 := c.isLt
  refine Fin.ext ?_
  simp only [row, peer]; omega

theorem lin_row : ∀ c : Dev nD, Layout.meshLin [2, 2] c.val [0] = c.val / 2 := by decide
theorem lin_col : ∀ c : Dev nD, Layout.meshLin [2, 2] c.val [1] = c.val % 2 := by decide

/-- The entry of a device's block of a matrix, and of its block of a vector. -/
theorem block_matrix (X : FVec Ideal Cert.ReferenceIdeal.S1536x1024 .f32) (c : Dev nD) (i : Fin 768) (k : Fin 512) :
    (Layout.blockN ⟨2, ![768, 512]⟩ ⟨2, ![1536, 1024]⟩ (Layout.meshBlock [2, 2] ![[0], [1]] c) X) (ix2 i k) = X (ix2 (row c i) (col c k)) := by
  refine congrArg X (funext fun d => Fin.ext ?_)
  match d with
  | ⟨0, _⟩ => show Layout.meshLin [2, 2] c.val [0] * 768 + i.val = 768 * (c.val / 2) + i.val; rw [lin_row]; omega
  | ⟨1, _⟩ => show Layout.meshLin [2, 2] c.val [1] * 512 + k.val = 512 * (c.val % 2) + k.val; rw [lin_col]; omega

theorem block_vector (G : FVec Ideal Cert.ReferenceIdeal.S1024 .f32) (c : Dev nD) (k : Fin 512) :
    (Layout.blockN ⟨1, ![512]⟩ ⟨1, ![1024]⟩ (Layout.meshBlock [2, 2] ![[1]] c) G) (ix1 k) = G (ix1 (col c k)) := by
  refine congrArg G (funext fun d => Fin.ext ?_)
  match d with
  | ⟨0, _⟩ => show Layout.meshLin [2, 2] c.val [1] * 512 + k.val = 512 * (c.val % 2) + k.val; rw [lin_col]; omega

/-- A sum over a row, cut between the two devices that hold it. -/
theorem sum_row (f : Fin 1024 → EReal) (c : Dev nD) :
    (∑ k : Fin 512, f (col c k)) + ∑ k : Fin 512, f (col (peer c) k)
      = ∑ k, f k := by
  rw [Fin.sum_univ_two_halves 512 512 rfl f]
  have hp : (peer c).val % 2 = 1 - c.val % 2 := by simp only [peer]; omega
  rcases Nat.mod_two_eq_zero_or_one c.val with h | h
  · refine congrArg₂ (· + ·) ?_ ?_ <;>
      exact Finset.sum_congr rfl fun k _ => congrArg f (Fin.ext (by simp [col, hp, h]))
  · rw [add_comm]
    refine congrArg₂ (· + ·) ?_ ?_ <;>
      exact Finset.sum_congr rfl fun k _ => congrArg f (Fin.ext (by simp [col, hp, h]))

/-- Device `c`'s result at one place is the reference's there. -/
theorem value (m : (ℓ : Loc nD Cert.KernelIdeal.τ Cert.KernelIdeal.sig) → Buf (Elt Ideal) ℓ)
    (X : FVec Ideal Cert.ReferenceIdeal.S1536x1024 .f32) (G B : FVec Ideal Cert.ReferenceIdeal.S1024 .f32)
    (hpre : Cert.Pre_KernelIdeal_x_finite_KernelIdeal m)
    (hx : ∀ c : Dev nD, xIn m c = Layout.blockN ⟨2, ![768, 512]⟩ ⟨2, ![1536, 1024]⟩ (Layout.meshBlock [2, 2] ![[0], [1]] c) X)
    (hg : ∀ c : Dev nD, gIn m c = Layout.blockN ⟨1, ![512]⟩ ⟨1, ![1024]⟩ (Layout.meshBlock [2, 2] ![[1]] c) G)
    (hb : ∀ c : Dev nD, bIn m c = Layout.blockN ⟨1, ![512]⟩ ⟨1, ![1024]⟩ (Layout.meshBlock [2, 2] ![[1]] c) B)
    (c : Dev nD) (a : Fin 768) (l : Fin 512) :
    outOf m c (ix2 a l) = Cert.ReferenceIdeal.Norm.result X G B (ix2 (row c a) (col c l)) := by
  have hX : ∀ (d : Dev nD) (k : Fin 512), xIn m d (ix2 a k) = X (ix2 (row d a) (col d k)) := fun d k => by
    rw [hx, block_matrix]
  have hreal : ∀ q : Fin 1024, ∃ r : ℝ, X (ix2 (row c a) q) = r := by
    intro q
    obtain ⟨d, k, hd, rfl⟩ : ∃ (d : Dev nD) (k : Fin 512), row d a = row c a ∧ q = col d k := by
      by_cases h : q.val / 512 = c.val % 2
      · exact ⟨c, ⟨q.val % 512, by omega⟩, rfl, Fin.ext (by simp only [col]; omega)⟩
      · refine ⟨peer c, ⟨q.val % 512, by omega⟩, row_peer c a, Fin.ext ?_⟩
        simp only [col, peer]; omega
    rw [← hd, ← hX]
    exact real_of_finite _ _ _ (hpre d) _
  have hsum : Cert.KernelIdeal.Norm.total m c a = ∑ k, X (ix2 (row c a) k) := by
    unfold Cert.KernelIdeal.Norm.total
    simp only [hX, row_peer]
    exact sum_row (fun k => X (ix2 (row c a) k)) c
  have hsq : Cert.KernelIdeal.Norm.totalSq m c a = ∑ k, X (ix2 (row c a) k) * X (ix2 (row c a) k) := by
    unfold Cert.KernelIdeal.Norm.totalSq
    simp only [hX, row_peer]
    exact sum_row (fun k => X (ix2 (row c a) k) * X (ix2 (row c a) k)) c
  rw [Cert.KernelIdeal.Norm.outOf_at, hsum, hsq, hX, hg, hb, block_vector, block_vector, Cert.ReferenceIdeal.Norm.result_at,
    Cert.ReferenceIdeal.Norm.variances_at]
  simp only [Cert.ReferenceIdeal.Norm.centred_at, Cert.ReferenceIdeal.Norm.means_at]
  exact Cert.Norm.norm_eq (fun k => X (ix2 (row c a) k)) hreal (col c l) _ _

theorem algebraic : Cert.algebraic_KernelIdeal_ReferenceIdeal_pre_x_finite_KernelIdeal := by
  intro m g m' g' hpre hagree
  refine ⟨Cert.ReferenceIdeal.Norm.result (m' ((0 : Dev Cert.ReferenceIdeal.nD).tc.loc Cert.ReferenceIdeal.main_arg0))
    (m' ((0 : Dev Cert.ReferenceIdeal.nD).tc.loc Cert.ReferenceIdeal.main_arg1))
    (m' ((0 : Dev Cert.ReferenceIdeal.nD).tc.loc Cert.ReferenceIdeal.main_arg2)), ?_, ?_⟩
  · refine (θ_run Cert.KernelIdeal.defs _ _).mono (fun r h c => ⟨(h.1 c).1.trans ?_, (h.1 c).2⟩) (Cert.KernelIdeal.Norm.run_main m g)
    funext i
    obtain ⟨a, l, rfl⟩ : ∃ (a : Fin 768) (l : Fin 512), i = ix2 a l := ⟨i 0, i 1, eq_ix2 i⟩
    exact (value m _ _ _ hpre (fun c => (hagree c).1) (fun c => (hagree c).2.1) (fun c => (hagree c).2.2) c a l).trans (block_matrix _ c a l).symm
  · refine (θ_run Cert.ReferenceIdeal.defs _ _).mono (fun r h => ?_) (Cert.ReferenceIdeal.Value.run m' g')
    exact h 0

end Cert.Proof
-- ==== Proof.lean ====
/-
The certificate: the kernel runs to the end without a fault, on the words and on the extended reals; so does the
reference; and for a matrix without infinities the kernel's blocks are those of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_x_finite_KernelIdeal
public import proofs.«01_k».proof.Proof.Gen.Pre_x_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim, in the order stated. -/
theorem claim : Cert.Claim := ⟨Cert.Kernel.Gen.facts, Cert.KernelIdeal.Gen.facts, Cert.ReferenceIdeal.Gen.facts, Cert.Pre_x_finite_KernelIdeal.Gen.facts, Cert.Pre_x_finite_ReferenceIdeal.Gen.facts,
  frame_kernel, frame_ideal, frame_ideal_finite, frame_reference, frame_reference_finite, trivial, algebraic⟩

end Cert.Proof

end
